-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ascending [hPre_ascending : Cert.Pre_ascending.Facts] (m : (ℓ : Loc Cert.KernelIdeal.nD Cert.KernelIdeal.τ Cert.KernelIdeal.sig) → Buf (Elt Ideal) ℓ) : Prop :=
  ∀ c : Dev Cert.KernelIdeal.nD,
    (Cert.Pre_ascending.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ascending [hPre_ascending : Cert.Pre_ascending.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ascending.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ascending [hKernelIdeal : Cert.KernelIdeal.Facts] [hPre_ascending : Cert.Pre_ascending.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ascending m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ascending [hReferenceIdeal : Cert.ReferenceIdeal.Facts] [hPre_ascending : Cert.Pre_ascending.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ascending m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ascending [hKernelIdeal : Cert.KernelIdeal.Facts] [hReferenceIdeal : Cert.ReferenceIdeal.Facts] [hPre_ascending : Cert.Pre_ascending.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ascending m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ascending : Cert.Pre_ascending.Facts),
    quiescent_Kernel (hKernel := hKernel)
    ∧ quiescent_KernelIdeal (hKernelIdeal := hKernelIdeal)
    ∧ quiescent_KernelIdeal_pre_ascending (hKernelIdeal := hKernelIdeal) (hPre_ascending := hPre_ascending)
    ∧ quiescent_ReferenceIdeal (hReferenceIdeal := hReferenceIdeal)
    ∧ quiescent_ReferenceIdeal_pre_ascending (hReferenceIdeal := hReferenceIdeal) (hPre_ascending := hPre_ascending)
    ∧ preserves_Kernel_KernelIdeal
    ∧ algebraic_KernelIdeal_ReferenceIdeal_pre_ascending (hKernelIdeal := hKernelIdeal) (hReferenceIdeal := hReferenceIdeal) (hPre_ascending := hPre_ascending)
-- ==== Pre_ascending.lean ====
abbrev S2048x4096 : Shape := ⟨2, ![2048, 4096]⟩
abbrev S65536 : Shape := ⟨1, ![65536]⟩
abbrev S65535 : Shape := ⟨1, ![65535]⟩
abbrev S_ : Shape := ⟨0, ![]⟩

class Facts : Prop where
  slices_S65536_S65535_0 : S65536.Slices ![0] S65535
  slices_S65536_S65535_1 : S65536.Slices ![1] S65535
  reducesTo_S65535_S_d0 : S65535.ReducesTo [0] S_
  h_S_ : 0 < S_.numel

variable [Facts]

def fn {F : FTy → Type} [FloatOps F] (main_arg0 : FVec F S2048x4096 .f32) (main_arg1 : FVec F S65536 .f32) : IVec S_ 1 :=
  let main_v0 : FVec F S65535 .f32 := (extractStridedSlice S65535 ![0] · slices_S65536_S65535_0) main_arg1
  let main_v1 : FVec F S65535 .f32 := (extractStridedSlice S65535 ![1] · slices_S65536_S65535_1) main_arg1
  let main_v2 : IVec S65535 1 := cmpf .ole main_v0 main_v1
  let main_c : IVec S_ 1 := constantI S_ 1 1#1
  let main_v3 : IVec S_ 1 := (fun x v => Host.reduce IntOp.andi x v reducesTo_S65535_S_d0 h_S_) main_v2 main_c
  main_v3
-- ==== Kernel.lean ====
abbrev S2048x4096 : Shape := ⟨2, ![2048, 4096]⟩
abbrev S65536 : Shape := ⟨1, ![65536]⟩
abbrev S8388608 : Shape := ⟨1, ![8388608]⟩
abbrev S8192 : Shape := ⟨1, ![8192]⟩
abbrev S_ : Shape := ⟨0, ![]⟩
abbrev S16 : Shape := ⟨1, ![16]⟩

abbrev nBuf : Table → Nat
  | .hbm => 5
  | .local .scVector .vmem => 3
  | _ => 0

abbrev bufTy : (tb : Table) → Fin (nBuf tb) → BufTy
  | .hbm, ⟨0, _⟩ => ⟨S2048x4096, .f32⟩
  | .hbm, ⟨1, _⟩ => ⟨S65536, .f32⟩
  | .hbm, ⟨2, _⟩ => ⟨S8388608, .f32⟩
  | .hbm, ⟨3, _⟩ => ⟨S8388608, .i32⟩
  | .hbm, ⟨4, _⟩ => ⟨S2048x4096, .i32⟩
  | .local .scVector .vmem, ⟨0, _⟩ => ⟨S65536, .f32⟩
  | .local .scVector .vmem, ⟨1, _⟩ => ⟨S8192, .f32⟩
  | .local .scVector .vmem, ⟨2, _⟩ => ⟨S8192, .i32⟩
  | _, _ => ⟨S2048x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_0 : BitVec 32 := 0#32
  let c1_i32 : BitVec 32 := 1#32
  let arg8 : BitVec 32 := Scf.iv c0_i32_0 c1_i32 k0_t1
  let c8192_i32 : BitVec 32 := 8192#32
  let v4 : BitVec 32 := Scalar.muli arg8 c8192_i32
  let v5 : BitVec 32 := Scalar.addi v2 v4
  ![v5.toNat]
@[reducible] def k0_t2_loop : Scf.Loop 32 :=
  let c0_i32_3 : BitVec 32 := 0#32
  let c64_i32 : BitVec 32 := 64#32
  let v6 : BitVec 32 := Scalar.addi c0_i32_3 c64_i32
  let c1_i32_4 : BitVec 32 := 1#32
  ⟨c0_i32_3, v6, c1_i32_4⟩
def k0_off2 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c128_i32 : BitVec 32 := 128#32
  let v7 : BitVec 32 := Scalar.muli arg9 c128_i32
  let c0_i32_6 : BitVec 32 := 0#32
  let v8 : BitVec 32 := Scalar.addi v7 c0_i32_6
  let v9 : Index := Scalar.indexCast v8
  ![v9.toNat]

def k0_chk1 (v13 : IVec S16 32) : Prop :=
  (∀ a x, ((![v13] : Fin 1 → IVec S16 32) a x).toNat < S65536.size a)
theorem k0_idx1_inb : ∀ (v13 : IVec S16 32) (k0_hw1 : k0_chk1 v13), ∀ a x, ((![v13] : Fin 1 → IVec S16 32) a x).toNat < S65536.size a := fun v13 k0_hw1 => k0_hw1

def k0_chk2 (v20 : IVec S16 32) : Prop :=
  (∀ a x, ((![v20] : Fin 1 → IVec S16 32) a x).toNat < S65536.size a)
theorem k0_idx2_inb : ∀ (v20 : IVec S16 32) (k0_hw2 : k0_chk2 v20), ∀ a x, ((![v20] : Fin 1 → IVec S16 32) a x).toNat < S65536.size a := fun v20 k0_hw2 => k0_hw2

def k0_chk3 (v27 : IVec S16 32) : Prop :=
  (∀ a x, ((![v27] : Fin 1 → IVec S16 32) a x).toNat < S65536.size a)
theorem k0_idx3_inb : ∀ (v27 : IVec S16 32) (k0_hw3 : k0_chk3 v27), ∀ a x, ((![v27] : Fin 1 → IVec S16 32) a x).toNat < S65536.size a := fun v27 k0_hw3 => k0_hw3

def k0_chk4 (v34 : IVec S16 32) : Prop :=
  (∀ a x, ((![v34] : Fin 1 → IVec S16 32) a x).toNat < S65536.size a)
theorem k0_idx4_inb : ∀ (v34 : IVec S16 32) (k0_hw4 : k0_chk4 v34), ∀ a x, ((![v34] : Fin 1 → IVec S16 32) a x).toNat < S65536.size a := fun v34 k0_hw4 => k0_hw4

def k0_chk5 (v41 : IVec S16 32) : Prop :=
  (∀ a x, ((![v41] : Fin 1 → IVec S16 32) a x).toNat < S65536.size a)
theorem k0_idx5_inb : ∀ (v41 : IVec S16 32) (k0_hw5 : k0_chk5 v41), ∀ a x, ((![v41] : Fin 1 → IVec S16 32) a x).toNat < S65536.size a := fun v41 k0_hw5 => k0_hw5

def k0_chk6 (v48 : IVec S16 32) : Prop :=
  (∀ a x, ((![v48] : Fin 1 → IVec S16 32) a x).toNat < S65536.size a)
theorem k0_idx6_inb : ∀ (v48 : IVec S16 32) (k0_hw6 : k0_chk6 v48), ∀ a x, ((![v48] : Fin 1 → IVec S16 32) a x).toNat < S65536.size a := fun v48 k0_hw6 => k0_hw6

def k0_chk7 (v55 : IVec S16 32) : Prop :=
  (∀ a x, ((![v55] : Fin 1 → IVec S16 32) a x).toNat < S65536.size a)
theorem k0_idx7_inb : ∀ (v55 : IVec S16 32) (k0_hw7 : k0_chk7 v55), ∀ a x, ((![v55] : Fin 1 → IVec S16 32) a x).toNat < S65536.size a := fun v55 k0_hw7 => k0_hw7

def k0_chk8 (v62 : IVec S16 32) : Prop :=
  (∀ a x, ((![v62] : Fin 1 → IVec S16 32) a x).toNat < S65536.size a)
theorem k0_idx8_inb : ∀ (v62 : IVec S16 32) (k0_hw8 : k0_chk8 v62), ∀ a x, ((![v62] : Fin 1 → IVec S16 32) a x).toNat < S65536.size a := fun v62 k0_hw8 => k0_hw8

def k0_chk9 (v69 : IVec S16 32) : Prop :=
  (∀ a x, ((![v69] : Fin 1 → IVec S16 32) a x).toNat < S65536.size a)
theorem k0_idx9_inb : ∀ (v69 : IVec S16 32) (k0_hw9 : k0_chk9 v69), ∀ a x, ((![v69] : Fin 1 → IVec S16 32) a x).toNat < S65536.size a := fun v69 k0_hw9 => k0_hw9

def k0_chk10 (v76 : IVec S16 32) : Prop :=
  (∀ a x, ((![v76] : Fin 1 → IVec S16 32) a x).toNat < S65536.size a)
theorem k0_idx10_inb : ∀ (v76 : IVec S16 32) (k0_hw10 : k0_chk10 v76), ∀ a x, ((![v76] : Fin 1 → IVec S16 32) a x).toNat < S65536.size a := fun v76 k0_hw10 => k0_hw10

def k0_chk11 (v83 : IVec S16 32) : Prop :=
  (∀ a x, ((![v83] : Fin 1 → IVec S16 32) a x).toNat < S65536.size a)
theorem k0_idx11_inb : ∀ (v83 : IVec S16 32) (k0_hw11 : k0_chk11 v83), ∀ a x, ((![v83] : Fin 1 → IVec S16 32) a x).toNat < S65536.size a := fun v83 k0_hw11 => k0_hw11

def k0_chk12 (v90 : IVec S16 32) : Prop :=
  (∀ a x, ((![v90] : Fin 1 → IVec S16 32) a x).toNat < S65536.size a)
theorem k0_idx12_inb : ∀ (v90 : IVec S16 32) (k0_hw12 : k0_chk12 v90), ∀ a x, ((![v90] : Fin 1 → IVec S16 32) a x).toNat < S65536.size a := fun v90 k0_hw12 => k0_hw12

def k0_chk13 (v97 : IVec S16 32) : Prop :=
  (∀ a x, ((![v97] : Fin 1 → IVec S16 32) a x).toNat < S65536.size a)
theorem k0_idx13_inb : ∀ (v97 : IVec S16 32) (k0_hw13 : k0_chk13 v97), ∀ a x, ((![v97] : Fin 1 → IVec S16 32) a x).toNat < S65536.size a := fun v97 k0_hw13 => k0_hw13

def k0_chk14 (v104 : IVec S16 32) : Prop :=
  (∀ a x, ((![v104] : Fin 1 → IVec S16 32) a x).toNat < S65536.size a)
theorem k0_idx14_inb : ∀ (v104 : IVec S16 32) (k0_hw14 : k0_chk14 v104), ∀ a x, ((![v104] : Fin 1 → IVec S16 32) a x).toNat < S65536.size a := fun v104 k0_hw14 => k0_hw14

def k0_chk15 (v111 : IVec S16 32) : Prop :=
  (∀ a x, ((![v111] : Fin 1 → IVec S16 32) a x).toNat < S65536.size a)
theorem k0_idx15_inb : ∀ (v111 : IVec S16 32) (k0_hw15 : k0_chk15 v111), ∀ a x, ((![v111] : Fin 1 → IVec S16 32) a x).toNat < S65536.size a := fun v111 k0_hw15 => k0_hw15

def k0_chk16 (v118 : IVec S16 32) : Prop :=
  (∀ a x, ((![v118] : Fin 1 → IVec S16 32) a x).toNat < S65536.size a)
theorem k0_idx16_inb : ∀ (v118 : IVec S16 32) (k0_hw16 : k0_chk16 v118), ∀ a x, ((![v118] : Fin 1 → IVec S16 32) a x).toNat < S65536.size a := fun v118 k0_hw16 => k0_hw16

def k0_chk17 (v129 : IVec S16 32) : Prop :=
  (∀ a x, ((![v129] : Fin 1 → IVec S16 32) a x).toNat < S65536.size a)
theorem k0_idx17_inb : ∀ (v129 : IVec S16 32) (k0_hw17 : k0_chk17 v129), ∀ a x, ((![v129] : Fin 1 → IVec S16 32) a x).toNat < S65536.size a := fun v129 k0_hw17 => k0_hw17

def k0_chk18 (v127 : IVec S16 32) : Prop :=
  (∀ a x, ((![v127] : Fin 1 → IVec S16 32) a x).toNat < S65536.size a)
theorem k0_idx18_inb : ∀ (v127 : IVec S16 32) (k0_hw18 : k0_chk18 v127), ∀ a x, ((![v127] : Fin 1 → IVec S16 32) a x).toNat < S65536.size a := fun v127 k0_hw18 => k0_hw18
def k0_off3 (k0_t2 : Fin k0_t2_loop.trips) (c0_i32_19 : BitVec 32) : Fin 1 → Nat :=
  let c0_i32_3 : BitVec 32 := 0#32
  let c1_i32_4 : BitVec 32 := 1#32
  let arg9 : BitVec 32 := Scf.iv c0_i32_3 c1_i32_4 k0_t2
  let c128_i32 : BitVec 32 := 128#32
  let v7 : BitVec 32 := Scalar.muli arg9 c128_i32
  let v138 : BitVec 32 := Scalar.addi v7 c0_i32_19
  let v139 : Index := Scalar.indexCast v138
  ![v139.toNat]

def k0_chk19 (v146 : IVec S16 32) : Prop :=
  (∀ a x, ((![v146] : Fin 1 → IVec S16 32) a x).toNat < S65536.size a)
theorem k0_idx19_inb : ∀ (v146 : IVec S16 32) (k0_hw19 : k0_chk19 v146), ∀ a x, ((![v146] : Fin 1 → IVec S16 32) a x).toNat < S65536.size a := fun v146 k0_hw19 => k0_hw19

def k0_chk20 (v153 : IVec S16 32) : Prop :=
  (∀ a x, ((![v153] : Fin 1 → IVec S16 32) a x).toNat < S65536.size a)
theorem k0_idx20_inb : ∀ (v153 : IVec S16 32) (k0_hw20 : k0_chk20 v153), ∀ a x, ((![v153] : Fin 1 → IVec S16 32) a x).toNat < S65536.size a := fun v153 k0_hw20 => k0_hw20

def k0_chk21 (v160 : IVec S16 32) : Prop :=
  (∀ a x, ((![v160] : Fin 1 → IVec S16 32) a x).toNat < S65536.size a)
theorem k0_idx21_inb : ∀ (v160 : IVec S16 32) (k0_hw21 : k0_chk21 v160), ∀ a x, ((![v160] : Fin 1 → IVec S16 32) a x).toNat < S65536.size a := fun v160 k0_hw21 => k0_hw21

def k0_chk22 (v167 : IVec S16 32) : Prop :=
  (∀ a x, ((![v167] : Fin 1 → IVec S16 32) a x).toNat < S65536.size a)
theorem k0_idx22_inb : ∀ (v167 : IVec S16 32) (k0_hw22 : k0_chk22 v167), ∀ a x, ((![v167] : Fin 1 → IVec S16 32) a x).toNat < S65536.size a := fun v167 k0_hw22 => k0_hw22

def k0_chk23 (v174 : IVec S16 32) : Prop :=
  (∀ a x, ((![v174] : Fin 1 → IVec S16 32) a x).toNat < S65536.size a)
theorem k0_idx23_inb : ∀ (v174 : IVec S16 32) (k0_hw23 : k0_chk23 v174), ∀ a x, ((![v174] : Fin 1 → IVec S16 32) a x).toNat < S65536.size a := fun v174 k0_hw23 => k0_hw23

def k0_chk24 (v181 : IVec S16 32) : Prop :=
  (∀ a x, ((![v181] : Fin 1 → IVec S16 32) a x).toNat < S65536.size a)
theorem k0_idx24_inb : ∀ (v181 : IVec S16 32) (k0_hw24 : k0_chk24 v181), ∀ a x, ((![v181] : Fin 1 → IVec S16 32) a x).toNat < S65536.size a := fun v181 k0_hw24 => k0_hw24

def k0_chk25 (v188 : IVec S16 32) : Prop :=
  (∀ a x, ((![v188] : Fin 1 → IVec S16 32) a x).toNat < S65536.size a)
theorem k0_idx25_inb : ∀ (v188 : IVec S16 32) (k0_hw25 : k0_chk25 v188), ∀ a x, ((![v188] : Fin 1 → IVec S16 32) a x).toNat < S65536.size a := fun v188 k0_hw25 => k0_hw25

def k0_chk26 (v195 : IVec S16 32) : Prop :=
  (∀ a x, ((![v195] : Fin 1 → IVec S16 32) a x).toNat < S65536.size a)
theorem k0_idx26_inb : ∀ (v195 : IVec S16 32) (k0_hw26 : k0_chk26 v195), ∀ a x, ((![v195] : Fin 1 → IVec S16 32) a x).toNat < S65536.size a := fun v195 k0_hw26 => k0_hw26

def k0_chk27 (v202 : IVec S16 32) : Prop :=
  (∀ a x, ((![v202] : Fin 1 → IVec S16 32) a x).toNat < S65536.size a)
theorem k0_idx27_inb : ∀ (v202 : IVec S16 32) (k0_hw27 : k0_chk27 v202), ∀ a x, ((![v202] : Fin 1 → IVec S16 32) a x).toNat < S65536.size a := fun v202 k0_hw27 => k0_hw27

def k0_chk28 (v209 : IVec S16 32) : Prop :=
  (∀ a x, ((![v209] : Fin 1 → IVec S16 32) a x).toNat < S65536.size a)
theorem k0_idx28_inb : ∀ (v209 : IVec S16 32) (k0_hw28 : k0_chk28 v209), ∀ a x, ((![v209] : Fin 1 → IVec S16 32) a x).toNat < S65536.size a := fun v209 k0_hw28 => k0_hw28

def k0_chk29 (v216 : IVec S16 32) : Prop :=
  (∀ a x, ((![v216] : Fin 1 → IVec S16 32) a x).toNat < S65536.size a)
theorem k0_idx29_inb : ∀ (v216 : IVec S16 32) (k0_hw29 : k0_chk29 v216), ∀ a x, ((![v216] : Fin 1 → IVec S16 32) a x).toNat < S65536.size a := fun v216 k0_hw29 => k0_hw29

def k0_chk30 (v223 : IVec S16 32) : Prop :=
  (∀ a x, ((![v223] : Fin 1 → IVec S16 32) a x).toNat < S65536.size a)
theorem k0_idx30_inb : ∀ (v223 : IVec S16 32) (k0_hw30 : k0_chk30 v223), ∀ a x, ((![v223] : Fin 1 → IVec S16 32) a x).toNat < S65536.size a := fun v223 k0_hw30 => k0_hw30

def k0_chk31 (v230 : IVec S16 32) : Prop :=
  (∀ a x, ((![v230] : Fin 1 → IVec S16 32) a x).toNat < S65536.size a)
theorem k0_idx31_inb : ∀ (v230 : IVec S16 32) (k0_hw31 : k0_chk31 v230), ∀ a x, ((![v230] : Fin 1 → IVec S16 32) a x).toNat < S65536.size a := fun v230 k0_hw31 => k0_hw31

def k0_chk32 (v237 : IVec S16 32) : Prop :=
  (∀ a x, ((![v237] : Fin 1 → IVec S16 32) a x).toNat < S65536.size a)
theorem k0_idx32_inb : ∀ (v237 : IVec S16 32) (k0_hw32 : k0_chk32 v237), ∀ a x, ((![v237] : Fin 1 → IVec S16 32) a x).toNat < S65536.size a := fun v237 k0_hw32 => k0_hw32

def k0_chk33 (v244 : IVec S16 32) : Prop :=
  (∀ a x, ((![v244] : Fin 1 → IVec S16 32) a x).toNat < S65536.size a)
theorem k0_idx33_inb : ∀ (v244 : IVec S16 32) (k0_hw33 : k0_chk33 v244), ∀ a x, ((![v244] : Fin 1 → IVec S16 32) a x).toNat < S65536.size a := fun v244 k0_hw33 => k0_hw33

def k0_chk34 (v251 : IVec S16 32) : Prop :=
  (∀ a x, ((![v251] : Fin 1 → IVec S16 32) a x).toNat < S65536.size a)
theorem k0_idx34_inb : ∀ (v251 : IVec S16 32) (k0_hw34 : k0_chk34 v251), ∀ a x, ((![v251] : Fin 1 → IVec S16 32) a x).toNat < S65536.size a := fun v251 k0_hw34 => k0_hw34

def k0_chk35 (v262 : IVec S16 32) : Prop :=
  (∀ a x, ((![v262] : Fin 1 → IVec S16 32) a x).toNat < S65536.size a)
theorem k0_idx35_inb : ∀ (v262 : IVec S16 32) (k0_hw35 : k0_chk35 v262), ∀ a x, ((![v262] : Fin 1 → IVec S16 32) a x).toNat < S65536.size a := fun v262 k0_hw35 => k0_hw35

def k0_chk36 (v260 : IVec S16 32) : Prop :=
  (∀ a x, ((![v260] : Fin 1 → IVec S16 32) a x).toNat < S65536.size a)
theorem k0_idx36_inb : ∀ (v260 : IVec S16 32) (k0_hw36 : k0_chk36 v260), ∀ a x, ((![v260] : Fin 1 → IVec S16 32) a x).toNat < S65536.size a := fun v260 k0_hw36 => k0_hw36
def k0_off4 (k0_t2 : Fin k0_t2_loop.trips) (c16_i32_58 : BitVec 32) : Fin 1 → Nat :=
  let c0_i32_3 : BitVec 32 := 0#32
  let c1_i32_4 : BitVec 32 := 1#32
  let arg9 : BitVec 32 := Scf.iv c0_i32_3 c1_i32_4 k0_t2
  let c128_i32 : BitVec 32 := 128#32
  let v7 : BitVec 32 := Scalar.muli arg9 c128_i32
  let v271 : BitVec 32 := Scalar.addi v7 c16_i32_58
  let v272 : Index := Scalar.indexCast v271
  ![v272.toNat]

def k0_chk37 (v279 : IVec S16 32) : Prop :=
  (∀ a x, ((![v279] : Fin 1 → IVec S16 32) a x).toNat < S65536.size a)
theorem k0_idx37_inb : ∀ (v279 : IVec S16 32) (k0_hw37 : k0_chk37 v279), ∀ a x, ((![v279] : Fin 1 → IVec S16 32) a x).toNat < S65536.size a := fun v279 k0_hw37 => k0_hw37

def k0_chk38 (v286 : IVec S16 32) : Prop :=
  (∀ a x, ((![v286] : Fin 1 → IVec S16 32) a x).toNat < S65536.size a)
theorem k0_idx38_inb : ∀ (v286 : IVec S16 32) (k0_hw38 : k0_chk38 v286), ∀ a x, ((![v286] : Fin 1 → IVec S16 32) a x).toNat < S65536.size a := fun v286 k0_hw38 => k0_hw38

def k0_chk39 (v293 : IVec S16 32) : Prop :=
  (∀ a x, ((![v293] : Fin 1 → IVec S16 32) a x).toNat < S65536.size a)
theorem k0_idx39_inb : ∀ (v293 : IVec S16 32) (k0_hw39 : k0_chk39 v293), ∀ a x, ((![v293] : Fin 1 → IVec S16 32) a x).toNat < S65536.size a := fun v293 k0_hw39 => k0_hw39

def k0_chk40 (v300 : IVec S16 32) : Prop :=
  (∀ a x, ((![v300] : Fin 1 → IVec S16 32) a x).toNat < S65536.size a)
theorem k0_idx40_inb : ∀ (v300 : IVec S16 32) (k0_hw40 : k0_chk40 v300), ∀ a x, ((![v300] : Fin 1 → IVec S16 32) a x).toNat < S65536.size a := fun v300 k0_hw40 => k0_hw40

def k0_chk41 (v307 : IVec S16 32) : Prop :=
  (∀ a x, ((![v307] : Fin 1 → IVec S16 32) a x).toNat < S65536.size a)
theorem k0_idx41_inb : ∀ (v307 : IVec S16 32) (k0_hw41 : k0_chk41 v307), ∀ a x, ((![v307] : Fin 1 → IVec S16 32) a x).toNat < S65536.size a := fun v307 k0_hw41 => k0_hw41

def k0_chk42 (v314 : IVec S16 32) : Prop :=
  (∀ a x, ((![v314] : Fin 1 → IVec S16 32) a x).toNat < S65536.size a)
theorem k0_idx42_inb : ∀ (v314 : IVec S16 32) (k0_hw42 : k0_chk42 v314), ∀ a x, ((![v314] : Fin 1 → IVec S16 32) a x).toNat < S65536.size a := fun v314 k0_hw42 => k0_hw42

def k0_chk43 (v321 : IVec S16 32) : Prop :=
  (∀ a x, ((![v321] : Fin 1 → IVec S16 32) a x).toNat < S65536.size a)
theorem k0_idx43_inb : ∀ (v321 : IVec S16 32) (k0_hw43 : k0_chk43 v321), ∀ a x, ((![v321] : Fin 1 → IVec S16 32) a x).toNat < S65536.size a := fun v321 k0_hw43 => k0_hw43

def k0_chk44 (v328 : IVec S16 32) : Prop :=
  (∀ a x, ((![v328] : Fin 1 → IVec S16 32) a x).toNat < S65536.size a)
theorem k0_idx44_inb : ∀ (v328 : IVec S16 32) (k0_hw44 : k0_chk44 v328), ∀ a x, ((![v328] : Fin 1 → IVec S16 32) a x).toNat < S65536.size a := fun v328 k0_hw44 => k0_hw44

def k0_chk45 (v335 : IVec S16 32) : Prop :=
  (∀ a x, ((![v335] : Fin 1 → IVec S16 32) a x).toNat < S65536.size a)
theorem k0_idx45_inb : ∀ (v335 : IVec S16 32) (k0_hw45 : k0_chk45 v335), ∀ a x, ((![v335] : Fin 1 → IVec S16 32) a x).toNat < S65536.size a := fun v335 k0_hw45 => k0_hw45

def k0_chk46 (v342 : IVec S16 32) : Prop :=
  (∀ a x, ((![v342] : Fin 1 → IVec S16 32) a x).toNat < S65536.size a)
theorem k0_idx46_inb : ∀ (v342 : IVec S16 32) (k0_hw46 : k0_chk46 v342), ∀ a x, ((![v342] : Fin 1 → IVec S16 32) a x).toNat < S65536.size a := fun v342 k0_hw46 => k0_hw46

def k0_chk47 (v349 : IVec S16 32) : Prop :=
  (∀ a x, ((![v349] : Fin 1 → IVec S16 32) a x).toNat < S65536.size a)
theorem k0_idx47_inb : ∀ (v349 : IVec S16 32) (k0_hw47 : k0_chk47 v349), ∀ a x, ((![v349] : Fin 1 → IVec S16 32) a x).toNat < S65536.size a := fun v349 k0_hw47 => k0_hw47

def k0_chk48 (v356 : IVec S16 32) : Prop :=
  (∀ a x, ((![v356] : Fin 1 → IVec S16 32) a x).toNat < S65536.size a)
theorem k0_idx48_inb : ∀ (v356 : IVec S16 32) (k0_hw48 : k0_chk48 v356), ∀ a x, ((![v356] : Fin 1 → IVec S16 32) a x).toNat < S65536.size a := fun v356 k0_hw48 => k0_hw48

def k0_chk49 (v363 : IVec S16 32) : Prop :=
  (∀ a x, ((![v363] : Fin 1 → IVec S16 32) a x).toNat < S65536.size a)
theorem k0_idx49_inb : ∀ (v363 : IVec S16 32) (k0_hw49 : k0_chk49 v363), ∀ a x, ((![v363] : Fin 1 → IVec S16 32) a x).toNat < S65536.size a := fun v363 k0_hw49 => k0_hw49

def k0_chk50 (v370 : IVec S16 32) : Prop :=
  (∀ a x, ((![v370] : Fin 1 → IVec S16 32) a x).toNat < S65536.size a)
theorem k0_idx50_inb : ∀ (v370 : IVec S16 32) (k0_hw50 : k0_chk50 v370), ∀ a x, ((![v370] : Fin 1 → IVec S16 32) a x).toNat < S65536.size a := fun v370 k0_hw50 => k0_hw50

def k0_chk51 (v377 : IVec S16 32) : Prop :=
  (∀ a x, ((![v377] : Fin 1 → IVec S16 32) a x).toNat < S65536.size a)
theorem k0_idx51_inb : ∀ (v377 : IVec S16 32) (k0_hw51 : k0_chk51 v377), ∀ a x, ((![v377] : Fin 1 → IVec S16 32) a x).toNat < S65536.size a := fun v377 k0_hw51 => k0_hw51

def k0_chk52 (v384 : IVec S16 32) : Prop :=
  (∀ a x, ((![v384] : Fin 1 → IVec S16 32) a x).toNat < S65536.size a)
theorem k0_idx52_inb : ∀ (v384 : IVec S16 32) (k0_hw52 : k0_chk52 v384), ∀ a x, ((![v384] : Fin 1 → IVec S16 32) a x).toNat < S65536.size a := fun v384 k0_hw52 => k0_hw52

def k0_chk53 (v395 : IVec S16 32) : Prop :=
  (∀ a x, ((![v395] : Fin 1 → IVec S16 32) a x).toNat < S65536.size a)
theorem k0_idx53_inb : ∀ (v395 : IVec S16 32) (k0_hw53 : k0_chk53 v395), ∀ a x, ((![v395] : Fin 1 → IVec S16 32) a x).toNat < S65536.size a := fun v395 k0_hw53 => k0_hw53

def k0_chk54 (v393 : IVec S16 32) : Prop :=
  (∀ a x, ((![v393] : Fin 1 → IVec S16 32) a x).toNat < S65536.size a)
theorem k0_idx54_inb : ∀ (v393 : IVec S16 32) (k0_hw54 : k0_chk54 v393), ∀ a x, ((![v393] : Fin 1 → IVec S16 32) a x).toNat < S65536.size a := fun v393 k0_hw54 => k0_hw54
def k0_off5 (k0_t2 : Fin k0_t2_loop.trips) (c32_i32_97 : BitVec 32) : Fin 1 → Nat :=
  let c0_i32_3 : BitVec 32 := 0#32
  let c1_i32_4 : BitVec 32 := 1#32
  let arg9 : BitVec 32 := Scf.iv c0_i32_3 c1_i32_4 k0_t2
  let c128_i32 : BitVec 32 := 128#32
  let v7 : BitVec 32 := Scalar.muli arg9 c128_i32
  let v404 : BitVec 32 := Scalar.addi v7 c32_i32_97
  let v405 : Index := Scalar.indexCast v404
  ![v405.toNat]

def k0_chk55 (v412 : IVec S16 32) : Prop :=
  (∀ a x, ((![v412] : Fin 1 → IVec S16 32) a x).toNat < S65536.size a)
theorem k0_idx55_inb : ∀ (v412 : IVec S16 32) (k0_hw55 : k0_chk55 v412), ∀ a x, ((![v412] : Fin 1 → IVec S16 32) a x).toNat < S65536.size a := fun v412 k0_hw55 => k0_hw55

def k0_chk56 (v419 : IVec S16 32) : Prop :=
  (∀ a x, ((![v419] : Fin 1 → IVec S16 32) a x).toNat < S65536.size a)
theorem k0_idx56_inb : ∀ (v419 : IVec S16 32) (k0_hw56 : k0_chk56 v419), ∀ a x, ((![v419] : Fin 1 → IVec S16 32) a x).toNat < S65536.size a := fun v419 k0_hw56 => k0_hw56

def k0_chk57 (v426 : IVec S16 32) : Prop :=
  (∀ a x, ((![v426] : Fin 1 → IVec S16 32) a x).toNat < S65536.size a)
theorem k0_idx57_inb : ∀ (v426 : IVec S16 32) (k0_hw57 : k0_chk57 v426), ∀ a x, ((![v426] : Fin 1 → IVec S16 32) a x).toNat < S65536.size a := fun v426 k0_hw57 => k0_hw57

def k0_chk58 (v433 : IVec S16 32) : Prop :=
  (∀ a x, ((![v433] : Fin 1 → IVec S16 32) a x).toNat < S65536.size a)
theorem k0_idx58_inb : ∀ (v433 : IVec S16 32) (k0_hw58 : k0_chk58 v433), ∀ a x, ((![v433] : Fin 1 → IVec S16 32) a x).toNat < S65536.size a := fun v433 k0_hw58 => k0_hw58

def k0_chk59 (v440 : IVec S16 32) : Prop :=
  (∀ a x, ((![v440] : Fin 1 → IVec S16 32) a x).toNat < S65536.size a)
theorem k0_idx59_inb : ∀ (v440 : IVec S16 32) (k0_hw59 : k0_chk59 v440), ∀ a x, ((![v440] : Fin 1 → IVec S16 32) a x).toNat < S65536.size a := fun v440 k0_hw59 => k0_hw59

def k0_chk60 (v447 : IVec S16 32) : Prop :=
  (∀ a x, ((![v447] : Fin 1 → IVec S16 32) a x).toNat < S65536.size a)
theorem k0_idx60_inb : ∀ (v447 : IVec S16 32) (k0_hw60 : k0_chk60 v447), ∀ a x, ((![v447] : Fin 1 → IVec S16 32) a x).toNat < S65536.size a := fun v447 k0_hw60 => k0_hw60

def k0_chk61 (v454 : IVec S16 32) : Prop :=
  (∀ a x, ((![v454] : Fin 1 → IVec S16 32) a x).toNat < S65536.size a)
theorem k0_idx61_inb : ∀ (v454 : IVec S16 32) (k0_hw61 : k0_chk61 v454), ∀ a x, ((![v454] : Fin 1 → IVec S16 32) a x).toNat < S65536.size a := fun v454 k0_hw61 => k0_hw61

def k0_chk62 (v461 : IVec S16 32) : Prop :=
  (∀ a x, ((![v461] : Fin 1 → IVec S16 32) a x).toNat < S65536.size a)
theorem k0_idx62_inb : ∀ (v461 : IVec S16 32) (k0_hw62 : k0_chk62 v461), ∀ a x, ((![v461] : Fin 1 → IVec S16 32) a x).toNat < S65536.size a := fun v461 k0_hw62 => k0_hw62

def k0_chk63 (v468 : IVec S16 32) : Prop :=
  (∀ a x, ((![v468] : Fin 1 → IVec S16 32) a x).toNat < S65536.size a)
theorem k0_idx63_inb : ∀ (v468 : IVec S16 32) (k0_hw63 : k0_chk63 v468), ∀ a x, ((![v468] : Fin 1 → IVec S16 32) a x).toNat < S65536.size a := fun v468 k0_hw63 => k0_hw63

def k0_chk64 (v475 : IVec S16 32) : Prop :=
  (∀ a x, ((![v475] : Fin 1 → IVec S16 32) a x).toNat < S65536.size a)
theorem k0_idx64_inb : ∀ (v475 : IVec S16 32) (k0_hw64 : k0_chk64 v475), ∀ a x, ((![v475] : Fin 1 → IVec S16 32) a x).toNat < S65536.size a := fun v475 k0_hw64 => k0_hw64

def k0_chk65 (v482 : IVec S16 32) : Prop :=
  (∀ a x, ((![v482] : Fin 1 → IVec S16 32) a x).toNat < S65536.size a)
theorem k0_idx65_inb : ∀ (v482 : IVec S16 32) (k0_hw65 : k0_chk65 v482), ∀ a x, ((![v482] : Fin 1 → IVec S16 32) a x).toNat < S65536.size a := fun v482 k0_hw65 => k0_hw65

def k0_chk66 (v489 : IVec S16 32) : Prop :=
  (∀ a x, ((![v489] : Fin 1 → IVec S16 32) a x).toNat < S65536.size a)
theorem k0_idx66_inb : ∀ (v489 : IVec S16 32) (k0_hw66 : k0_chk66 v489), ∀ a x, ((![v489] : Fin 1 → IVec S16 32) a x).toNat < S65536.size a := fun v489 k0_hw66 => k0_hw66

def k0_chk67 (v496 : IVec S16 32) : Prop :=
  (∀ a x, ((![v496] : Fin 1 → IVec S16 32) a x).toNat < S65536.size a)
theorem k0_idx67_inb : ∀ (v496 : IVec S16 32) (k0_hw67 : k0_chk67 v496), ∀ a x, ((![v496] : Fin 1 → IVec S16 32) a x).toNat < S65536.size a := fun v496 k0_hw67 => k0_hw67

def k0_chk68 (v503 : IVec S16 32) : Prop :=
  (∀ a x, ((![v503] : Fin 1 → IVec S16 32) a x).toNat < S65536.size a)
theorem k0_idx68_inb : ∀ (v503 : IVec S16 32) (k0_hw68 : k0_chk68 v503), ∀ a x, ((![v503] : Fin 1 → IVec S16 32) a x).toNat < S65536.size a := fun v503 k0_hw68 => k0_hw68

def k0_chk69 (v510 : IVec S16 32) : Prop :=
  (∀ a x, ((![v510] : Fin 1 → IVec S16 32) a x).toNat < S65536.size a)
theorem k0_idx69_inb : ∀ (v510 : IVec S16 32) (k0_hw69 : k0_chk69 v510), ∀ a x, ((![v510] : Fin 1 → IVec S16 32) a x).toNat < S65536.size a := fun v510 k0_hw69 => k0_hw69

def k0_chk70 (v517 : IVec S16 32) : Prop :=
  (∀ a x, ((![v517] : Fin 1 → IVec S16 32) a x).toNat < S65536.size a)
theorem k0_idx70_inb : ∀ (v517 : IVec S16 32) (k0_hw70 : k0_chk70 v517), ∀ a x, ((![v517] : Fin 1 → IVec S16 32) a x).toNat < S65536.size a := fun v517 k0_hw70 => k0_hw70

def k0_chk71 (v528 : IVec S16 32) : Prop :=
  (∀ a x, ((![v528] : Fin 1 → IVec S16 32) a x).toNat < S65536.size a)
theorem k0_idx71_inb : ∀ (v528 : IVec S16 32) (k0_hw71 : k0_chk71 v528), ∀ a x, ((![v528] : Fin 1 → IVec S16 32) a x).toNat < S65536.size a := fun v528 k0_hw71 => k0_hw71

def k0_chk72 (v526 : IVec S16 32) : Prop :=
  (∀ a x, ((![v526] : Fin 1 → IVec S16 32) a x).toNat < S65536.size a)
theorem k0_idx72_inb : ∀ (v526 : IVec S16 32) (k0_hw72 : k0_chk72 v526), ∀ a x, ((![v526] : Fin 1 → IVec S16 32) a x).toNat < S65536.size a := fun v526 k0_hw72 => k0_hw72
def k0_off6 (k0_t2 : Fin k0_t2_loop.trips) (c48_i32_135 : BitVec 32) : Fin 1 → Nat :=
  let c0_i32_3 : BitVec 32 := 0#32
  let c1_i32_4 : BitVec 32 := 1#32
  let arg9 : BitVec 32 := Scf.iv c0_i32_3 c1_i32_4 k0_t2
  let c128_i32 : BitVec 32 := 128#32
  let v7 : BitVec 32 := Scalar.muli arg9 c128_i32
  let v537 : BitVec 32 := Scalar.addi v7 c48_i32_135
  let v538 : Index := Scalar.indexCast v537
  ![v538.toNat]

def k0_chk73 (v545 : IVec S16 32) : Prop :=
  (∀ a x, ((![v545] : Fin 1 → IVec S16 32) a x).toNat < S65536.size a)
theorem k0_idx73_inb : ∀ (v545 : IVec S16 32) (k0_hw73 : k0_chk73 v545), ∀ a x, ((![v545] : Fin 1 → IVec S16 32) a x).toNat < S65536.size a := fun v545 k0_hw73 => k0_hw73

def k0_chk74 (v552 : IVec S16 32) : Prop :=
  (∀ a x, ((![v552] : Fin 1 → IVec S16 32) a x).toNat < S65536.size a)
theorem k0_idx74_inb : ∀ (v552 : IVec S16 32) (k0_hw74 : k0_chk74 v552), ∀ a x, ((![v552] : Fin 1 → IVec S16 32) a x).toNat < S65536.size a := fun v552 k0_hw74 => k0_hw74

def k0_chk75 (v559 : IVec S16 32) : Prop :=
  (∀ a x, ((![v559] : Fin 1 → IVec S16 32) a x).toNat < S65536.size a)
theorem k0_idx75_inb : ∀ (v559 : IVec S16 32) (k0_hw75 : k0_chk75 v559), ∀ a x, ((![v559] : Fin 1 → IVec S16 32) a x).toNat < S65536.size a := fun v559 k0_hw75 => k0_hw75

def k0_chk76 (v566 : IVec S16 32) : Prop :=
  (∀ a x, ((![v566] : Fin 1 → IVec S16 32) a x).toNat < S65536.size a)
theorem k0_idx76_inb : ∀ (v566 : IVec S16 32) (k0_hw76 : k0_chk76 v566), ∀ a x, ((![v566] : Fin 1 → IVec S16 32) a x).toNat < S65536.size a := fun v566 k0_hw76 => k0_hw76

def k0_chk77 (v573 : IVec S16 32) : Prop :=
  (∀ a x, ((![v573] : Fin 1 → IVec S16 32) a x).toNat < S65536.size a)
theorem k0_idx77_inb : ∀ (v573 : IVec S16 32) (k0_hw77 : k0_chk77 v573), ∀ a x, ((![v573] : Fin 1 → IVec S16 32) a x).toNat < S65536.size a := fun v573 k0_hw77 => k0_hw77

def k0_chk78 (v580 : IVec S16 32) : Prop :=
  (∀ a x, ((![v580] : Fin 1 → IVec S16 32) a x).toNat < S65536.size a)
theorem k0_idx78_inb : ∀ (v580 : IVec S16 32) (k0_hw78 : k0_chk78 v580), ∀ a x, ((![v580] : Fin 1 → IVec S16 32) a x).toNat < S65536.size a := fun v580 k0_hw78 => k0_hw78

def k0_chk79 (v587 : IVec S16 32) : Prop :=
  (∀ a x, ((![v587] : Fin 1 → IVec S16 32) a x).toNat < S65536.size a)
theorem k0_idx79_inb : ∀ (v587 : IVec S16 32) (k0_hw79 : k0_chk79 v587), ∀ a x, ((![v587] : Fin 1 → IVec S16 32) a x).toNat < S65536.size a := fun v587 k0_hw79 => k0_hw79

def k0_chk80 (v594 : IVec S16 32) : Prop :=
  (∀ a x, ((![v594] : Fin 1 → IVec S16 32) a x).toNat < S65536.size a)
theorem k0_idx80_inb : ∀ (v594 : IVec S16 32) (k0_hw80 : k0_chk80 v594), ∀ a x, ((![v594] : Fin 1 → IVec S16 32) a x).toNat < S65536.size a := fun v594 k0_hw80 => k0_hw80

def k0_chk81 (v601 : IVec S16 32) : Prop :=
  (∀ a x, ((![v601] : Fin 1 → IVec S16 32) a x).toNat < S65536.size a)
theorem k0_idx81_inb : ∀ (v601 : IVec S16 32) (k0_hw81 : k0_chk81 v601), ∀ a x, ((![v601] : Fin 1 → IVec S16 32) a x).toNat < S65536.size a := fun v601 k0_hw81 => k0_hw81

def k0_chk82 (v608 : IVec S16 32) : Prop :=
  (∀ a x, ((![v608] : Fin 1 → IVec S16 32) a x).toNat < S65536.size a)
theorem k0_idx82_inb : ∀ (v608 : IVec S16 32) (k0_hw82 : k0_chk82 v608), ∀ a x, ((![v608] : Fin 1 → IVec S16 32) a x).toNat < S65536.size a := fun v608 k0_hw82 => k0_hw82

def k0_chk83 (v615 : IVec S16 32) : Prop :=
  (∀ a x, ((![v615] : Fin 1 → IVec S16 32) a x).toNat < S65536.size a)
theorem k0_idx83_inb : ∀ (v615 : IVec S16 32) (k0_hw83 : k0_chk83 v615), ∀ a x, ((![v615] : Fin 1 → IVec S16 32) a x).toNat < S65536.size a := fun v615 k0_hw83 => k0_hw83

def k0_chk84 (v622 : IVec S16 32) : Prop :=
  (∀ a x, ((![v622] : Fin 1 → IVec S16 32) a x).toNat < S65536.size a)
theorem k0_idx84_inb : ∀ (v622 : IVec S16 32) (k0_hw84 : k0_chk84 v622), ∀ a x, ((![v622] : Fin 1 → IVec S16 32) a x).toNat < S65536.size a := fun v622 k0_hw84 => k0_hw84

def k0_chk85 (v629 : IVec S16 32) : Prop :=
  (∀ a x, ((![v629] : Fin 1 → IVec S16 32) a x).toNat < S65536.size a)
theorem k0_idx85_inb : ∀ (v629 : IVec S16 32) (k0_hw85 : k0_chk85 v629), ∀ a x, ((![v629] : Fin 1 → IVec S16 32) a x).toNat < S65536.size a := fun v629 k0_hw85 => k0_hw85

def k0_chk86 (v636 : IVec S16 32) : Prop :=
  (∀ a x, ((![v636] : Fin 1 → IVec S16 32) a x).toNat < S65536.size a)
theorem k0_idx86_inb : ∀ (v636 : IVec S16 32) (k0_hw86 : k0_chk86 v636), ∀ a x, ((![v636] : Fin 1 → IVec S16 32) a x).toNat < S65536.size a := fun v636 k0_hw86 => k0_hw86

def k0_chk87 (v643 : IVec S16 32) : Prop :=
  (∀ a x, ((![v643] : Fin 1 → IVec S16 32) a x).toNat < S65536.size a)
theorem k0_idx87_inb : ∀ (v643 : IVec S16 32) (k0_hw87 : k0_chk87 v643), ∀ a x, ((![v643] : Fin 1 → IVec S16 32) a x).toNat < S65536.size a := fun v643 k0_hw87 => k0_hw87

def k0_chk88 (v650 : IVec S16 32) : Prop :=
  (∀ a x, ((![v650] : Fin 1 → IVec S16 32) a x).toNat < S65536.size a)
theorem k0_idx88_inb : ∀ (v650 : IVec S16 32) (k0_hw88 : k0_chk88 v650), ∀ a x, ((![v650] : Fin 1 → IVec S16 32) a x).toNat < S65536.size a := fun v650 k0_hw88 => k0_hw88

def k0_chk89 (v661 : IVec S16 32) : Prop :=
  (∀ a x, ((![v661] : Fin 1 → IVec S16 32) a x).toNat < S65536.size a)
theorem k0_idx89_inb : ∀ (v661 : IVec S16 32) (k0_hw89 : k0_chk89 v661), ∀ a x, ((![v661] : Fin 1 → IVec S16 32) a x).toNat < S65536.size a := fun v661 k0_hw89 => k0_hw89

def k0_chk90 (v659 : IVec S16 32) : Prop :=
  (∀ a x, ((![v659] : Fin 1 → IVec S16 32) a x).toNat < S65536.size a)
theorem k0_idx90_inb : ∀ (v659 : IVec S16 32) (k0_hw90 : k0_chk90 v659), ∀ a x, ((![v659] : Fin 1 → IVec S16 32) a x).toNat < S65536.size a := fun v659 k0_hw90 => k0_hw90
def k0_off7 (k0_t2 : Fin k0_t2_loop.trips) (c64_i32_174 : BitVec 32) : Fin 1 → Nat :=
  let c0_i32_3 : BitVec 32 := 0#32
  let c1_i32_4 : BitVec 32 := 1#32
  let arg9 : BitVec 32 := Scf.iv c0_i32_3 c1_i32_4 k0_t2
  let c128_i32 : BitVec 32 := 128#32
  let v7 : BitVec 32 := Scalar.muli arg9 c128_i32
  let v670 : BitVec 32 := Scalar.addi v7 c64_i32_174
  let v671 : Index := Scalar.indexCast v670
  ![v671.toNat]

def k0_chk91 (v678 : IVec S16 32) : Prop :=
  (∀ a x, ((![v678] : Fin 1 → IVec S16 32) a x).toNat < S65536.size a)
theorem k0_idx91_inb : ∀ (v678 : IVec S16 32) (k0_hw91 : k0_chk91 v678), ∀ a x, ((![v678] : Fin 1 → IVec S16 32) a x).toNat < S65536.size a := fun v678 k0_hw91 => k0_hw91

def k0_chk92 (v685 : IVec S16 32) : Prop :=
  (∀ a x, ((![v685] : Fin 1 → IVec S16 32) a x).toNat < S65536.size a)
theorem k0_idx92_inb : ∀ (v685 : IVec S16 32) (k0_hw92 : k0_chk92 v685), ∀ a x, ((![v685] : Fin 1 → IVec S16 32) a x).toNat < S65536.size a := fun v685 k0_hw92 => k0_hw92

def k0_chk93 (v692 : IVec S16 32) : Prop :=
  (∀ a x, ((![v692] : Fin 1 → IVec S16 32) a x).toNat < S65536.size a)
theorem k0_idx93_inb : ∀ (v692 : IVec S16 32) (k0_hw93 : k0_chk93 v692), ∀ a x, ((![v692] : Fin 1 → IVec S16 32) a x).toNat < S65536.size a := fun v692 k0_hw93 => k0_hw93

def k0_chk94 (v699 : IVec S16 32) : Prop :=
  (∀ a x, ((![v699] : Fin 1 → IVec S16 32) a x).toNat < S65536.size a)
theorem k0_idx94_inb : ∀ (v699 : IVec S16 32) (k0_hw94 : k0_chk94 v699), ∀ a x, ((![v699] : Fin 1 → IVec S16 32) a x).toNat < S65536.size a := fun v699 k0_hw94 => k0_hw94

def k0_chk95 (v706 : IVec S16 32) : Prop :=
  (∀ a x, ((![v706] : Fin 1 → IVec S16 32) a x).toNat < S65536.size a)
theorem k0_idx95_inb : ∀ (v706 : IVec S16 32) (k0_hw95 : k0_chk95 v706), ∀ a x, ((![v706] : Fin 1 → IVec S16 32) a x).toNat < S65536.size a := fun v706 k0_hw95 => k0_hw95

def k0_chk96 (v713 : IVec S16 32) : Prop :=
  (∀ a x, ((![v713] : Fin 1 → IVec S16 32) a x).toNat < S65536.size a)
theorem k0_idx96_inb : ∀ (v713 : IVec S16 32) (k0_hw96 : k0_chk96 v713), ∀ a x, ((![v713] : Fin 1 → IVec S16 32) a x).toNat < S65536.size a := fun v713 k0_hw96 => k0_hw96

def k0_chk97 (v720 : IVec S16 32) : Prop :=
  (∀ a x, ((![v720] : Fin 1 → IVec S16 32) a x).toNat < S65536.size a)
theorem k0_idx97_inb : ∀ (v720 : IVec S16 32) (k0_hw97 : k0_chk97 v720), ∀ a x, ((![v720] : Fin 1 → IVec S16 32) a x).toNat < S65536.size a := fun v720 k0_hw97 => k0_hw97

def k0_chk98 (v727 : IVec S16 32) : Prop :=
  (∀ a x, ((![v727] : Fin 1 → IVec S16 32) a x).toNat < S65536.size a)
theorem k0_idx98_inb : ∀ (v727 : IVec S16 32) (k0_hw98 : k0_chk98 v727), ∀ a x, ((![v727] : Fin 1 → IVec S16 32) a x).toNat < S65536.size a := fun v727 k0_hw98 => k0_hw98

def k0_chk99 (v734 : IVec S16 32) : Prop :=
  (∀ a x, ((![v734] : Fin 1 → IVec S16 32) a x).toNat < S65536.size a)
theorem k0_idx99_inb : ∀ (v734 : IVec S16 32) (k0_hw99 : k0_chk99 v734), ∀ a x, ((![v734] : Fin 1 → IVec S16 32) a x).toNat < S65536.size a := fun v734 k0_hw99 => k0_hw99

def k0_chk100 (v741 : IVec S16 32) : Prop :=
  (∀ a x, ((![v741] : Fin 1 → IVec S16 32) a x).toNat < S65536.size a)
theorem k0_idx100_inb : ∀ (v741 : IVec S16 32) (k0_hw100 : k0_chk100 v741), ∀ a x, ((![v741] : Fin 1 → IVec S16 32) a x).toNat < S65536.size a := fun v741 k0_hw100 => k0_hw100

def k0_chk101 (v748 : IVec S16 32) : Prop :=
  (∀ a x, ((![v748] : Fin 1 → IVec S16 32) a x).toNat < S65536.size a)
theorem k0_idx101_inb : ∀ (v748 : IVec S16 32) (k0_hw101 : k0_chk101 v748), ∀ a x, ((![v748] : Fin 1 → IVec S16 32) a x).toNat < S65536.size a := fun v748 k0_hw101 => k0_hw101

def k0_chk102 (v755 : IVec S16 32) : Prop :=
  (∀ a x, ((![v755] : Fin 1 → IVec S16 32) a x).toNat < S65536.size a)
theorem k0_idx102_inb : ∀ (v755 : IVec S16 32) (k0_hw102 : k0_chk102 v755), ∀ a x, ((![v755] : Fin 1 → IVec S16 32) a x).toNat < S65536.size a := fun v755 k0_hw102 => k0_hw102

def k0_chk103 (v762 : IVec S16 32) : Prop :=
  (∀ a x, ((![v762] : Fin 1 → IVec S16 32) a x).toNat < S65536.size a)
theorem k0_idx103_inb : ∀ (v762 : IVec S16 32) (k0_hw103 : k0_chk103 v762), ∀ a x, ((![v762] : Fin 1 → IVec S16 32) a x).toNat < S65536.size a := fun v762 k0_hw103 => k0_hw103

def k0_chk104 (v769 : IVec S16 32) : Prop :=
  (∀ a x, ((![v769] : Fin 1 → IVec S16 32) a x).toNat < S65536.size a)
theorem k0_idx104_inb : ∀ (v769 : IVec S16 32) (k0_hw104 : k0_chk104 v769), ∀ a x, ((![v769] : Fin 1 → IVec S16 32) a x).toNat < S65536.size a := fun v769 k0_hw104 => k0_hw104

def k0_chk105 (v776 : IVec S16 32) : Prop :=
  (∀ a x, ((![v776] : Fin 1 → IVec S16 32) a x).toNat < S65536.size a)
theorem k0_idx105_inb : ∀ (v776 : IVec S16 32) (k0_hw105 : k0_chk105 v776), ∀ a x, ((![v776] : Fin 1 → IVec S16 32) a x).toNat < S65536.size a := fun v776 k0_hw105 => k0_hw105

def k0_chk106 (v783 : IVec S16 32) : Prop :=
  (∀ a x, ((![v783] : Fin 1 → IVec S16 32) a x).toNat < S65536.size a)
theorem k0_idx106_inb : ∀ (v783 : IVec S16 32) (k0_hw106 : k0_chk106 v783), ∀ a x, ((![v783] : Fin 1 → IVec S16 32) a x).toNat < S65536.size a := fun v783 k0_hw106 => k0_hw106

def k0_chk107 (v794 : IVec S16 32) : Prop :=
  (∀ a x, ((![v794] : Fin 1 → IVec S16 32) a x).toNat < S65536.size a)
theorem k0_idx107_inb : ∀ (v794 : IVec S16 32) (k0_hw107 : k0_chk107 v794), ∀ a x, ((![v794] : Fin 1 → IVec S16 32) a x).toNat < S65536.size a := fun v794 k0_hw107 => k0_hw107

def k0_chk108 (v792 : IVec S16 32) : Prop :=
  (∀ a x, ((![v792] : Fin 1 → IVec S16 32) a x).toNat < S65536.size a)
theorem k0_idx108_inb : ∀ (v792 : IVec S16 32) (k0_hw108 : k0_chk108 v792), ∀ a x, ((![v792] : Fin 1 → IVec S16 32) a x).toNat < S65536.size a := fun v792 k0_hw108 => k0_hw108
def k0_off8 (k0_t2 : Fin k0_t2_loop.trips) (c80_i32_212 : BitVec 32) : Fin 1 → Nat :=
  let c0_i32_3 : BitVec 32 := 0#32
  let c1_i32_4 : BitVec 32 := 1#32
  let arg9 : BitVec 32 := Scf.iv c0_i32_3 c1_i32_4 k0_t2
  let c128_i32 : BitVec 32 := 128#32
  let v7 : BitVec 32 := Scalar.muli arg9 c128_i32
  let v803 : BitVec 32 := Scalar.addi v7 c80_i32_212
  let v804 : Index := Scalar.indexCast v803
  ![v804.toNat]

def k0_chk109 (v811 : IVec S16 32) : Prop :=
  (∀ a x, ((![v811] : Fin 1 → IVec S16 32) a x).toNat < S65536.size a)
theorem k0_idx109_inb : ∀ (v811 : IVec S16 32) (k0_hw109 : k0_chk109 v811), ∀ a x, ((![v811] : Fin 1 → IVec S16 32) a x).toNat < S65536.size a := fun v811 k0_hw109 => k0_hw109

def k0_chk110 (v818 : IVec S16 32) : Prop :=
  (∀ a x, ((![v818] : Fin 1 → IVec S16 32) a x).toNat < S65536.size a)
theorem k0_idx110_inb : ∀ (v818 : IVec S16 32) (k0_hw110 : k0_chk110 v818), ∀ a x, ((![v818] : Fin 1 → IVec S16 32) a x).toNat < S65536.size a := fun v818 k0_hw110 => k0_hw110

def k0_chk111 (v825 : IVec S16 32) : Prop :=
  (∀ a x, ((![v825] : Fin 1 → IVec S16 32) a x).toNat < S65536.size a)
theorem k0_idx111_inb : ∀ (v825 : IVec S16 32) (k0_hw111 : k0_chk111 v825), ∀ a x, ((![v825] : Fin 1 → IVec S16 32) a x).toNat < S65536.size a := fun v825 k0_hw111 => k0_hw111

def k0_chk112 (v832 : IVec S16 32) : Prop :=
  (∀ a x, ((![v832] : Fin 1 → IVec S16 32) a x).toNat < S65536.size a)
theorem k0_idx112_inb : ∀ (v832 : IVec S16 32) (k0_hw112 : k0_chk112 v832), ∀ a x, ((![v832] : Fin 1 → IVec S16 32) a x).toNat < S65536.size a := fun v832 k0_hw112 => k0_hw112

def k0_chk113 (v839 : IVec S16 32) : Prop :=
  (∀ a x, ((![v839] : Fin 1 → IVec S16 32) a x).toNat < S65536.size a)
theorem k0_idx113_inb : ∀ (v839 : IVec S16 32) (k0_hw113 : k0_chk113 v839), ∀ a x, ((![v839] : Fin 1 → IVec S16 32) a x).toNat < S65536.size a := fun v839 k0_hw113 => k0_hw113

def k0_chk114 (v846 : IVec S16 32) : Prop :=
  (∀ a x, ((![v846] : Fin 1 → IVec S16 32) a x).toNat < S65536.size a)
theorem k0_idx114_inb : ∀ (v846 : IVec S16 32) (k0_hw114 : k0_chk114 v846), ∀ a x, ((![v846] : Fin 1 → IVec S16 32) a x).toNat < S65536.size a := fun v846 k0_hw114 => k0_hw114

def k0_chk115 (v853 : IVec S16 32) : Prop :=
  (∀ a x, ((![v853] : Fin 1 → IVec S16 32) a x).toNat < S65536.size a)
theorem k0_idx115_inb : ∀ (v853 : IVec S16 32) (k0_hw115 : k0_chk115 v853), ∀ a x, ((![v853] : Fin 1 → IVec S16 32) a x).toNat < S65536.size a := fun v853 k0_hw115 => k0_hw115

def k0_chk116 (v860 : IVec S16 32) : Prop :=
  (∀ a x, ((![v860] : Fin 1 → IVec S16 32) a x).toNat < S65536.size a)
theorem k0_idx116_inb : ∀ (v860 : IVec S16 32) (k0_hw116 : k0_chk116 v860), ∀ a x, ((![v860] : Fin 1 → IVec S16 32) a x).toNat < S65536.size a := fun v860 k0_hw116 => k0_hw116

def k0_chk117 (v867 : IVec S16 32) : Prop :=
  (∀ a x, ((![v867] : Fin 1 → IVec S16 32) a x).toNat < S65536.size a)
theorem k0_idx117_inb : ∀ (v867 : IVec S16 32) (k0_hw117 : k0_chk117 v867), ∀ a x, ((![v867] : Fin 1 → IVec S16 32) a x).toNat < S65536.size a := fun v867 k0_hw117 => k0_hw117

def k0_chk118 (v874 : IVec S16 32) : Prop :=
  (∀ a x, ((![v874] : Fin 1 → IVec S16 32) a x).toNat < S65536.size a)
theorem k0_idx118_inb : ∀ (v874 : IVec S16 32) (k0_hw118 : k0_chk118 v874), ∀ a x, ((![v874] : Fin 1 → IVec S16 32) a x).toNat < S65536.size a := fun v874 k0_hw118 => k0_hw118

def k0_chk119 (v881 : IVec S16 32) : Prop :=
  (∀ a x, ((![v881] : Fin 1 → IVec S16 32) a x).toNat < S65536.size a)
theorem k0_idx119_inb : ∀ (v881 : IVec S16 32) (k0_hw119 : k0_chk119 v881), ∀ a x, ((![v881] : Fin 1 → IVec S16 32) a x).toNat < S65536.size a := fun v881 k0_hw119 => k0_hw119

def k0_chk120 (v888 : IVec S16 32) : Prop :=
  (∀ a x, ((![v888] : Fin 1 → IVec S16 32) a x).toNat < S65536.size a)
theorem k0_idx120_inb : ∀ (v888 : IVec S16 32) (k0_hw120 : k0_chk120 v888), ∀ a x, ((![v888] : Fin 1 → IVec S16 32) a x).toNat < S65536.size a := fun v888 k0_hw120 => k0_hw120

def k0_chk121 (v895 : IVec S16 32) : Prop :=
  (∀ a x, ((![v895] : Fin 1 → IVec S16 32) a x).toNat < S65536.size a)
theorem k0_idx121_inb : ∀ (v895 : IVec S16 32) (k0_hw121 : k0_chk121 v895), ∀ a x, ((![v895] : Fin 1 → IVec S16 32) a x).toNat < S65536.size a := fun v895 k0_hw121 => k0_hw121

def k0_chk122 (v902 : IVec S16 32) : Prop :=
  (∀ a x, ((![v902] : Fin 1 → IVec S16 32) a x).toNat < S65536.size a)
theorem k0_idx122_inb : ∀ (v902 : IVec S16 32) (k0_hw122 : k0_chk122 v902), ∀ a x, ((![v902] : Fin 1 → IVec S16 32) a x).toNat < S65536.size a := fun v902 k0_hw122 => k0_hw122

def k0_chk123 (v909 : IVec S16 32) : Prop :=
  (∀ a x, ((![v909] : Fin 1 → IVec S16 32) a x).toNat < S65536.size a)
theorem k0_idx123_inb : ∀ (v909 : IVec S16 32) (k0_hw123 : k0_chk123 v909), ∀ a x, ((![v909] : Fin 1 → IVec S16 32) a x).toNat < S65536.size a := fun v909 k0_hw123 => k0_hw123

def k0_chk124 (v916 : IVec S16 32) : Prop :=
  (∀ a x, ((![v916] : Fin 1 → IVec S16 32) a x).toNat < S65536.size a)
theorem k0_idx124_inb : ∀ (v916 : IVec S16 32) (k0_hw124 : k0_chk124 v916), ∀ a x, ((![v916] : Fin 1 → IVec S16 32) a x).toNat < S65536.size a := fun v916 k0_hw124 => k0_hw124

def k0_chk125 (v927 : IVec S16 32) : Prop :=
  (∀ a x, ((![v927] : Fin 1 → IVec S16 32) a x).toNat < S65536.size a)
theorem k0_idx125_inb : ∀ (v927 : IVec S16 32) (k0_hw125 : k0_chk125 v927), ∀ a x, ((![v927] : Fin 1 → IVec S16 32) a x).toNat < S65536.size a := fun v927 k0_hw125 => k0_hw125

def k0_chk126 (v925 : IVec S16 32) : Prop :=
  (∀ a x, ((![v925] : Fin 1 → IVec S16 32) a x).toNat < S65536.size a)
theorem k0_idx126_inb : ∀ (v925 : IVec S16 32) (k0_hw126 : k0_chk126 v925), ∀ a x, ((![v925] : Fin 1 → IVec S16 32) a x).toNat < S65536.size a := fun v925 k0_hw126 => k0_hw126
def k0_off9 (k0_t2 : Fin k0_t2_loop.trips) (c96_i32_250 : BitVec 32) : Fin 1 → Nat :=
  let c0_i32_3 : BitVec 32 := 0#32
  let c1_i32_4 : BitVec 32 := 1#32
  let arg9 : BitVec 32 := Scf.iv c0_i32_3 c1_i32_4 k0_t2
  let c128_i32 : BitVec 32 := 128#32
  let v7 : BitVec 32 := Scalar.muli arg9 c128_i32
  let v936 : BitVec 32 := Scalar.addi v7 c96_i32_250
  let v937 : Index := Scalar.indexCast v936
  ![v937.toNat]

def k0_chk127 (v944 : IVec S16 32) : Prop :=
  (∀ a x, ((![v944] : Fin 1 → IVec S16 32) a x).toNat < S65536.size a)
theorem k0_idx127_inb : ∀ (v944 : IVec S16 32) (k0_hw127 : k0_chk127 v944), ∀ a x, ((![v944] : Fin 1 → IVec S16 32) a x).toNat < S65536.size a := fun v944 k0_hw127 => k0_hw127

def k0_chk128 (v951 : IVec S16 32) : Prop :=
  (∀ a x, ((![v951] : Fin 1 → IVec S16 32) a x).toNat < S65536.size a)
theorem k0_idx128_inb : ∀ (v951 : IVec S16 32) (k0_hw128 : k0_chk128 v951), ∀ a x, ((![v951] : Fin 1 → IVec S16 32) a x).toNat < S65536.size a := fun v951 k0_hw128 => k0_hw128

def k0_chk129 (v958 : IVec S16 32) : Prop :=
  (∀ a x, ((![v958] : Fin 1 → IVec S16 32) a x).toNat < S65536.size a)
theorem k0_idx129_inb : ∀ (v958 : IVec S16 32) (k0_hw129 : k0_chk129 v958), ∀ a x, ((![v958] : Fin 1 → IVec S16 32) a x).toNat < S65536.size a := fun v958 k0_hw129 => k0_hw129

def k0_chk130 (v965 : IVec S16 32) : Prop :=
  (∀ a x, ((![v965] : Fin 1 → IVec S16 32) a x).toNat < S65536.size a)
theorem k0_idx130_inb : ∀ (v965 : IVec S16 32) (k0_hw130 : k0_chk130 v965), ∀ a x, ((![v965] : Fin 1 → IVec S16 32) a x).toNat < S65536.size a := fun v965 k0_hw130 => k0_hw130

def k0_chk131 (v972 : IVec S16 32) : Prop :=
  (∀ a x, ((![v972] : Fin 1 → IVec S16 32) a x).toNat < S65536.size a)
theorem k0_idx131_inb : ∀ (v972 : IVec S16 32) (k0_hw131 : k0_chk131 v972), ∀ a x, ((![v972] : Fin 1 → IVec S16 32) a x).toNat < S65536.size a := fun v972 k0_hw131 => k0_hw131

def k0_chk132 (v979 : IVec S16 32) : Prop :=
  (∀ a x, ((![v979] : Fin 1 → IVec S16 32) a x).toNat < S65536.size a)
theorem k0_idx132_inb : ∀ (v979 : IVec S16 32) (k0_hw132 : k0_chk132 v979), ∀ a x, ((![v979] : Fin 1 → IVec S16 32) a x).toNat < S65536.size a := fun v979 k0_hw132 => k0_hw132

def k0_chk133 (v986 : IVec S16 32) : Prop :=
  (∀ a x, ((![v986] : Fin 1 → IVec S16 32) a x).toNat < S65536.size a)
theorem k0_idx133_inb : ∀ (v986 : IVec S16 32) (k0_hw133 : k0_chk133 v986), ∀ a x, ((![v986] : Fin 1 → IVec S16 32) a x).toNat < S65536.size a := fun v986 k0_hw133 => k0_hw133

def k0_chk134 (v993 : IVec S16 32) : Prop :=
  (∀ a x, ((![v993] : Fin 1 → IVec S16 32) a x).toNat < S65536.size a)
theorem k0_idx134_inb : ∀ (v993 : IVec S16 32) (k0_hw134 : k0_chk134 v993), ∀ a x, ((![v993] : Fin 1 → IVec S16 32) a x).toNat < S65536.size a := fun v993 k0_hw134 => k0_hw134

def k0_chk135 (v1000 : IVec S16 32) : Prop :=
  (∀ a x, ((![v1000] : Fin 1 → IVec S16 32) a x).toNat < S65536.size a)
theorem k0_idx135_inb : ∀ (v1000 : IVec S16 32) (k0_hw135 : k0_chk135 v1000), ∀ a x, ((![v1000] : Fin 1 → IVec S16 32) a x).toNat < S65536.size a := fun v1000 k0_hw135 => k0_hw135

def k0_chk136 (v1007 : IVec S16 32) : Prop :=
  (∀ a x, ((![v1007] : Fin 1 → IVec S16 32) a x).toNat < S65536.size a)
theorem k0_idx136_inb : ∀ (v1007 : IVec S16 32) (k0_hw136 : k0_chk136 v1007), ∀ a x, ((![v1007] : Fin 1 → IVec S16 32) a x).toNat < S65536.size a := fun v1007 k0_hw136 => k0_hw136

def k0_chk137 (v1014 : IVec S16 32) : Prop :=
  (∀ a x, ((![v1014] : Fin 1 → IVec S16 32) a x).toNat < S65536.size a)
theorem k0_idx137_inb : ∀ (v1014 : IVec S16 32) (k0_hw137 : k0_chk137 v1014), ∀ a x, ((![v1014] : Fin 1 → IVec S16 32) a x).toNat < S65536.size a := fun v1014 k0_hw137 => k0_hw137

def k0_chk138 (v1021 : IVec S16 32) : Prop :=
  (∀ a x, ((![v1021] : Fin 1 → IVec S16 32) a x).toNat < S65536.size a)
theorem k0_idx138_inb : ∀ (v1021 : IVec S16 32) (k0_hw138 : k0_chk138 v1021), ∀ a x, ((![v1021] : Fin 1 → IVec S16 32) a x).toNat < S65536.size a := fun v1021 k0_hw138 => k0_hw138

def k0_chk139 (v1028 : IVec S16 32) : Prop :=
  (∀ a x, ((![v1028] : Fin 1 → IVec S16 32) a x).toNat < S65536.size a)
theorem k0_idx139_inb : ∀ (v1028 : IVec S16 32) (k0_hw139 : k0_chk139 v1028), ∀ a x, ((![v1028] : Fin 1 → IVec S16 32) a x).toNat < S65536.size a := fun v1028 k0_hw139 => k0_hw139

def k0_chk140 (v1035 : IVec S16 32) : Prop :=
  (∀ a x, ((![v1035] : Fin 1 → IVec S16 32) a x).toNat < S65536.size a)
theorem k0_idx140_inb : ∀ (v1035 : IVec S16 32) (k0_hw140 : k0_chk140 v1035), ∀ a x, ((![v1035] : Fin 1 → IVec S16 32) a x).toNat < S65536.size a := fun v1035 k0_hw140 => k0_hw140

def k0_chk141 (v1042 : IVec S16 32) : Prop :=
  (∀ a x, ((![v1042] : Fin 1 → IVec S16 32) a x).toNat < S65536.size a)
theorem k0_idx141_inb : ∀ (v1042 : IVec S16 32) (k0_hw141 : k0_chk141 v1042), ∀ a x, ((![v1042] : Fin 1 → IVec S16 32) a x).toNat < S65536.size a := fun v1042 k0_hw141 => k0_hw141

def k0_chk142 (v1049 : IVec S16 32) : Prop :=
  (∀ a x, ((![v1049] : Fin 1 → IVec S16 32) a x).toNat < S65536.size a)
theorem k0_idx142_inb : ∀ (v1049 : IVec S16 32) (k0_hw142 : k0_chk142 v1049), ∀ a x, ((![v1049] : Fin 1 → IVec S16 32) a x).toNat < S65536.size a := fun v1049 k0_hw142 => k0_hw142

def k0_chk143 (v1060 : IVec S16 32) : Prop :=
  (∀ a x, ((![v1060] : Fin 1 → IVec S16 32) a x).toNat < S65536.size a)
theorem k0_idx143_inb : ∀ (v1060 : IVec S16 32) (k0_hw143 : k0_chk143 v1060), ∀ a x, ((![v1060] : Fin 1 → IVec S16 32) a x).toNat < S65536.size a := fun v1060 k0_hw143 => k0_hw143

def k0_chk144 (v1058 : IVec S16 32) : Prop :=
  (∀ a x, ((![v1058] : Fin 1 → IVec S16 32) a x).toNat < S65536.size a)
theorem k0_idx144_inb : ∀ (v1058 : IVec S16 32) (k0_hw144 : k0_chk144 v1058), ∀ a x, ((![v1058] : Fin 1 → IVec S16 32) a x).toNat < S65536.size a := fun v1058 k0_hw144 => k0_hw144
def k0_off10 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c128_i32 : BitVec 32 := 128#32
  let v7 : BitVec 32 := Scalar.muli arg9 c128_i32
  let c112_i32_288 : BitVec 32 := 112#32
  let v1069 : BitVec 32 := Scalar.addi v7 c112_i32_288
  let v1070 : Index := Scalar.indexCast v1069
  ![v1070.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x4096 : Shape := ⟨2, ![2048, 4096]⟩
abbrev S65536 : Shape := ⟨1, ![65536]⟩
abbrev S1x1x65536 : Shape := ⟨3, ![1, 1, 65536]⟩
abbrev S2048x4096x1 : Shape := ⟨3, ![2048, 4096, 1]⟩
abbrev S2048x4096x65536 : Shape := ⟨3, ![2048, 4096, 65536]⟩
abbrev S_ : Shape := ⟨0, ![]⟩
abbrev S1 : Shape := ⟨1, ![1]⟩
abbrev S1x1x1 : Shape := ⟨3, ![1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S65536, .f32⟩
  | .hbm, ⟨2, _⟩ => ⟨S65536, .f32⟩
  | .hbm, ⟨3, _⟩ => ⟨S1x1x65536, .f32⟩
  | .hbm, ⟨4, _⟩ => ⟨S2048x4096x1, .f32⟩
  | .hbm, ⟨5, _⟩ => ⟨S2048x4096x65536, .f32⟩
  | .hbm, ⟨6, _⟩ => ⟨S2048x4096x65536, .f32⟩
  | .hbm, ⟨7, _⟩ => ⟨S2048x4096x65536, .i1⟩
  | .hbm, ⟨8, _⟩ => ⟨S2048x4096x65536, .i32⟩
  | .hbm, ⟨9, _⟩ => ⟨S_, .i32⟩
  | .hbm, ⟨10, _⟩ => ⟨S2048x4096, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S2048x4096, .i32⟩
  | .hbm, ⟨15, _⟩ => ⟨S2048x4096, .i32⟩
  | .hbm, ⟨16, _⟩ => ⟨S_, .i32⟩
  | .hbm, ⟨17, _⟩ => ⟨S2048x4096, .i32⟩
  | .hbm, ⟨18, _⟩ => ⟨S2048x4096, .i32⟩
  | .hbm, ⟨19, _⟩ => ⟨S_, .i32⟩
  | .hbm, ⟨20, _⟩ => ⟨S2048x4096, .i32⟩
  | .hbm, ⟨21, _⟩ => ⟨S2048x4096, .i32⟩
  | .hbm, ⟨22, _⟩ => ⟨S_, .i32⟩
  | .hbm, ⟨23, _⟩ => ⟨S2048x4096, .i32⟩
  | .hbm, ⟨24, _⟩ => ⟨S2048x4096, .i1⟩
  | .hbm, ⟨25, _⟩ => ⟨S_, .i32⟩
  | .hbm, ⟨26, _⟩ => ⟨S2048x4096, .i32⟩
  | .hbm, ⟨27, _⟩ => ⟨S2048x4096, .i32⟩
  | .hbm, ⟨28, _⟩ => ⟨S2048x4096, .i32⟩
  | .hbm, ⟨29, _⟩ => ⟨S2048x4096x1, .i32⟩
  | .hbm, ⟨30, _⟩ => ⟨S1, .i32⟩
  | .hbm, ⟨31, _⟩ => ⟨S_, .i32⟩
  | .hbm, ⟨32, _⟩ => ⟨S2048x4096x1, .i32⟩
  | .hbm, ⟨33, _⟩ => ⟨S2048x4096x1, .i1⟩
  | .hbm, ⟨34, _⟩ => ⟨S1x1x1, .i32⟩
  | .hbm, ⟨35, _⟩ => ⟨S2048x4096x1, .i32⟩
  | .hbm, ⟨36, _⟩ => ⟨S2048x4096x1, .i1⟩
  | .hbm, ⟨37, _⟩ => ⟨S2048x4096x1, .i1⟩
  | .hbm, ⟨38, _⟩ => ⟨S_, .i1⟩
  | .hbm, ⟨39, _⟩ => ⟨S2048x4096, .i1⟩
  | .hbm, ⟨40, _⟩ => ⟨S2048x4096, .f32⟩
  | .hbm, ⟨41, _⟩ => ⟨S_, .f32⟩
  | .hbm, ⟨42, _⟩ => ⟨S2048x4096, .f32⟩
  | .hbm, ⟨43, _⟩ => ⟨S2048x4096, .f32⟩
  | .hbm, ⟨44, _⟩ => ⟨S_, .i32⟩
  | .hbm, ⟨45, _⟩ => ⟨S2048x4096, .i32⟩
  | .hbm, ⟨46, _⟩ => ⟨S2048x4096, .i1⟩
  | .hbm, ⟨47, _⟩ => ⟨S_, .i32⟩
  | .hbm, ⟨48, _⟩ => ⟨S2048x4096, .i32⟩
  | .hbm, ⟨49, _⟩ => ⟨S2048x4096, .i32⟩
  | .hbm, ⟨50, _⟩ => ⟨S2048x4096, .i32⟩
  | .hbm, ⟨51, _⟩ => ⟨S2048x4096x1, .i32⟩
  | .hbm, ⟨52, _⟩ => ⟨S1, .i32⟩
  | .hbm, ⟨53, _⟩ => ⟨S_, .i32⟩
  | .hbm, ⟨54, _⟩ => ⟨S2048x4096x1, .i32⟩
  | .hbm, ⟨55, _⟩ => ⟨S2048x4096x1, .i1⟩
  | .hbm, ⟨56, _⟩ => ⟨S1x1x1, .i32⟩
  | .hbm, ⟨57, _⟩ => ⟨S2048x4096x1, .i32⟩
  | .hbm, ⟨58, _⟩ => ⟨S2048x4096x1, .i1⟩
  | .hbm, ⟨59, _⟩ => ⟨S2048x4096x1, .i1⟩
  | .hbm, ⟨60, _⟩ => ⟨S_, .i1⟩
  | .hbm, ⟨61, _⟩ => ⟨S2048x4096, .i1⟩
  | .hbm, ⟨62, _⟩ => ⟨S2048x4096, .f32⟩
  | .hbm, ⟨63, _⟩ => ⟨S_, .f32⟩
  | .hbm, ⟨64, _⟩ => ⟨S2048x4096, .f32⟩
  | .hbm, ⟨65, _⟩ => ⟨S2048x4096, .f32⟩
  | .hbm, ⟨66, _⟩ => ⟨S2048x4096, .f32⟩
  | .hbm, ⟨67, _⟩ => ⟨S2048x4096, .f32⟩
  | .hbm, ⟨68, _⟩ => ⟨S2048x4096, .i1⟩
  | .hbm, ⟨69, _⟩ => ⟨S_, .i32⟩
  | .hbm, ⟨70, _⟩ => ⟨S2048x4096, .i32⟩
  | .hbm, ⟨71, _⟩ => ⟨S2048x4096, .i32⟩
  | .hbm, ⟨72, _⟩ => ⟨S2048x4096, .i32⟩
  | .hbm, ⟨73, _⟩ => ⟨S_, .i32⟩
  | .hbm, ⟨74, _⟩ => ⟨S2048x4096, .i32⟩
  | .hbm, ⟨75, _⟩ => ⟨S2048x4096, .i1⟩
  | .hbm, ⟨76, _⟩ => ⟨S_, .i32⟩
  | .hbm, ⟨77, _⟩ => ⟨S2048x4096, .i32⟩
  | .hbm, ⟨78, _⟩ => ⟨S2048x4096, .i32⟩
  | .hbm, ⟨79, _⟩ => ⟨S2048x4096, .i32⟩
  | .hbm, ⟨80, _⟩ => ⟨S2048x4096x1, .i32⟩
  | .hbm, ⟨81, _⟩ => ⟨S1, .i32⟩
  | .hbm, ⟨82, _⟩ => ⟨S_, .i32⟩
  | .hbm, ⟨83, _⟩ => ⟨S2048x4096x1, .i32⟩
  | .hbm, ⟨84, _⟩ => ⟨S2048x4096x1, .i1⟩
  | .hbm, ⟨85, _⟩ => ⟨S1x1x1, .i32⟩
  | .hbm, ⟨86, _⟩ => ⟨S2048x4096x1, .i32⟩
  | .hbm, ⟨87, _⟩ => ⟨S2048x4096x1, .i1⟩
  | .hbm, ⟨88, _⟩ => ⟨S2048x4096x1, .i1⟩
  | .hbm, ⟨89, _⟩ => ⟨S_, .i1⟩
  | .hbm, ⟨90, _⟩ => ⟨S2048x4096, .i1⟩
  | .hbm, ⟨91, _⟩ => ⟨S2048x4096, .f32⟩
  | .hbm, ⟨92, _⟩ => ⟨S_, .f32⟩
  | .hbm, ⟨93, _⟩ => ⟨S2048x4096, .f32⟩
  | .hbm, ⟨94, _⟩ => ⟨S2048x4096, .f32⟩
  | .hbm, ⟨95, _⟩ => ⟨S2048x4096, .i32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v11 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_cst : Ref sig .tc := ⟨.hbm, 63, rfl⟩
abbrev main_call2_v14 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_c_3 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_cst : Ref sig .tc := ⟨.hbm, 92, rfl⟩
abbrev main_call4_v14 : Ref sig .tc := ⟨.hbm, 93, rfl⟩
abbrev main_v19 : Ref sig .tc := ⟨.hbm, 94, rfl⟩
abbrev main_v20 : Ref sig .tc := ⟨.hbm, 95, rfl⟩

abbrev nD : Nat := 1
abbrev τ : Topo := Topo.v7x

variable {F : FTy → Type} [FloatOps F]
-- ==== Proof.SearchIdeal.lean ====
module

public import proofs.«01_k».proof.Proof.Gen.KernelIdeal
public import Idealize.ShloMosaic.Lib.SparseCore.Quiescent
public import Idealize.ShloMosaic.Lib.SparseCore.Ops
public import Idealize.ShloMosaic.Lib.Tactic

@[expose] public section

set_option maxRecDepth 16384

noncomputable section

namespace Cert.KernelIdeal.Search

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {c : Fin τ.nSC} {s : Fin τ.nSub}

/-- What a vector subcore's task returns, as a program of its effects. -/
abbrev Task (F : FTy → Type) (c : Fin τ.nSC) (s : Fin τ.nSub) : Type → Type 1 := Prog (TpuEff nD τ sig (Elt F) Λ₀ (.scVector c s))

/-- One word in every lane. -/
abbrev bc (w : BitVec 32) : IVec S16 32 := broadcast S16 w

/-- The lanes' table entries. -/
abbrev entries (f : Vec F S65536 .f32) (at' : IVec S16 32) (h : ∀ a x, ((![at'] : Fin 1 → IVec S16 32) a x).toNat < S65536.size a) :
    Vec F S16 .f32 := loadIdx f ![at'] h

/-- One probe: the lanes move up by `w.2` where the table's entry `w.1` above them is below the query. -/
abbrev probe (tab : Memref sig .scVector .vmem S65536 .f32) (q : Vec F S16 .f32) (w : BitVec 32 × BitVec 32) (p : IVec S16 32) :
    Task F c s (IVec S16 32) :=
  .op (.assume (k0_chk1 (addi p (bc w.1))) (k0_chk1.dec _)) fun hw =>
  .op (.load tab (.whole _) (View.loadsAt_whole (View.loads_vmem h_S65536))) fun f =>
  .ret (select (cmpf .olt (entries f (addi p (bc w.1)) (k0_idx1_inb _ hw.down)) q) (addi p (bc w.2)) p)

/-- The sixteen probes' strides, each with the entry it looks at. -/
abbrev strides : List (BitVec 32 × BitVec 32) :=
  [(32767#32, 32768#32), (16383#32, 16384#32), (8191#32, 8192#32), (4095#32, 4096#32), (2047#32, 2048#32), (1023#32, 1024#32),
   (511#32, 512#32), (255#32, 256#32), (127#32, 128#32), (63#32, 64#32), (31#32, 32#32), (15#32, 16#32), (7#32, 8#32), (3#32, 4#32),
   (1#32, 2#32), (0#32, 1#32)]

/-- Probes in turn. -/
def probes (tab : Memref sig .scVector .vmem S65536 .f32) (q : Vec F S16 .f32) :
    List (BitVec 32 × BitVec 32) → IVec S16 32 → Task F c s (IVec S16 32)
  | [], p => .ret p
  | w :: l, p => probe tab q w p >>= probes tab q l

/-- The insertion point kept inside the table. -/
abbrev inside (p : IVec S16 32) : IVec S16 32 := minsi (bc 65535#32) (maxsi (bc 1#32) p)

/-- Of the two entries around a query, the nearer one's number. -/
abbrev nearer (q l r : Vec F S16 .f32) (i : IVec S16 32) : IVec S16 32 :=
  select (cmpf .ole (subf q l) (subf r q)) (subi i (bc 1#32)) i

/-- From a vector of insertion points: the two entries around each query read, the nearer one's number stored. -/
abbrev settle (tab : Memref sig .scVector .vmem S65536 .f32) (os : Memref sig .scVector .vmem S8192 .i32) (q : Vec F S16 .f32)
    (b : Fin 1 → Nat) (hb : ∀ k, b k + S16.size k ≤ S8192.size k) {α : Type} (K : PUnit → Task F c s α) (p : IVec S16 32) : Task F c s α :=
  .op (.assume (k0_chk1 (inside p)) (k0_chk1.dec _)) fun h₁ =>
  .op (.assume (k0_chk1 (subi (inside p) (bc 1#32))) (k0_chk1.dec _)) fun h₀ =>
  .op (.load tab (.whole _) (View.loadsAt_whole (View.loads_vmem h_S65536))) fun f₀ =>
  .op (.load tab (.whole _) (View.loadsAt_whole (View.loads_vmem h_S65536))) fun f₁ =>
  .op (.load os (Rect.unit (s := S8192) b S16.size hb).toLoadRect (View.loadsAt_vmem h_S16)) fun _ =>
  .op (.store os (Rect.unit (s := S8192) b S16.size hb)
      (nearer q (entries f₀ (subi (inside p) (bc 1#32)) (k0_idx1_inb _ h₀.down)) (entries f₁ (inside p) (k0_idx1_inb _ h₁.down)) (inside p))
      Finset.univ (View.stores_vmem_bits_univ h_S16 rfl) (.inl rfl)) K

/-- One vector of sixteen queries. -/
def lane (tab : Memref sig .scVector .vmem S65536 .f32) (qs : Memref sig .scVector .vmem S8192 .f32) (os : Memref sig .scVector .vmem S8192 .i32)
    (a b : Fin 1 → Nat) (ha : ∀ k, a k + S16.size k ≤ S8192.size k) (hb : ∀ k, b k + S16.size k ≤ S8192.size k) :
    Task F c s PUnit :=
  .op (.load qs (Rect.unit (s := S8192) a S16.size ha).toLoadRect (View.loadsAt_vmem h_S16)) fun q =>
  probes tab q strides (bc 0#32) >>= settle tab os q b hb .ret

/-- Eight vectors of queries: one trip of the inner loop. -/
def row (tab : Memref sig .scVector .vmem S65536 .f32) (qs : Memref sig .scVector .vmem S8192 .f32) (os : Memref sig .scVector .vmem S8192 .i32)
    (k : Fin k0_t2_loop.trips) : Task F c s PUnit := do
  lane tab qs os (k0_off2 k) (k0_off3 k 0#32) (k0_off2_inb k) (k0_off3_inb k 0)
  lane tab qs os (k0_off3 k 16#32) (k0_off4 k 16#32) (k0_off3_inb k 1) (k0_off4_inb k 0)
  lane tab qs os (k0_off4 k 32#32) (k0_off5 k 32#32) (k0_off4_inb k 1) (k0_off5_inb k 0)
  lane tab qs os (k0_off5 k 48#32) (k0_off6 k 48#32) (k0_off5_inb k 1) (k0_off6_inb k 0)
  lane tab qs os (k0_off6 k 64#32) (k0_off7 k 64#32) (k0_off6_inb k 1) (k0_off7_inb k 0)
  lane tab qs os (k0_off7 k 80#32) (k0_off8 k 80#32) (k0_off7_inb k 1) (k0_off8_inb k 0)
  lane tab qs os (k0_off8 k 96#32) (k0_off9 k 96#32) (k0_off8_inb k 1) (k0_off9_inb k 0)
  lane tab qs os (k0_off9 k 112#32) (k0_off10 k) (k0_off9_inb k 1) (k0_off10_inb k)
  pure ⟨⟩

/-! ## What a lane computes -/

/-- The index of entry `n` of the table. -/
def slot (n : Nat) : S65536.Idx := fun a => ⟨n % S65536.size a, Nat.mod_lt _ (match a with | 0 => by decide)⟩

theorem slot_val (n : Nat) (h : n < 65536) : (slot n 0).val = n := Nat.mod_eq_of_lt h

/-- The table's entry a word names. -/
def entry (t : Vec F S65536 .f32) (w : BitVec 32) : F .f32 := t (slot w.toNat)

/-- One probe of one lane. -/
def bump (t : Vec F S65536 .f32) (x : F .f32) (w : BitVec 32 × BitVec 32) (p : BitVec 32) : BitVec 32 :=
  Scalar.select (FloatOps.cmpf .olt (entry t (p + w.1)) x) (p + w.2) p

/-- A lane's probes in turn. -/
def climb (t : Vec F S65536 .f32) (x : F .f32) : List (BitVec 32 × BitVec 32) → BitVec 32 → BitVec 32
  | [], p => p
  | w :: l, p => climb t x l (bump t x w p)

/-- The insertion point of one lane, kept inside the table. -/
def spot (t : Vec F S65536 .f32) (x : F .f32) : BitVec 32 := IntOp.minsi 65535#32 (IntOp.maxsi 1#32 (climb t x strides 0#32))

/-- The number of the table's entry a query lands on. -/
def answer (t : Vec F S65536 .f32) (x : F .f32) : BitVec 32 :=
  Scalar.select (FloatOps.cmpf .ole (FloatOps.subf x (entry t (spot t x - 1#32))) (FloatOps.subf (entry t (spot t x)) x))
    (spot t x - 1#32) (spot t x)

theorem entries_apply (f : Vec F S65536 .f32) (at' : IVec S16 32) (h) (x : S16.Idx) : entries f at' h x = entry f (at' x) := by
  have e : idxAt ![at'] h x = slot (at' x).toNat := by
    funext a
    obtain rfl : a = 0 := Subsingleton.elim _ _
    exact Fin.ext (Nat.mod_eq_of_lt (h 0 x)).symm
  show f _ = f _
  rw [e]

/-- The distance the probes of a list can still go. -/
def reach : List (BitVec 32 × BitVec 32) → Nat
  | [] => 0
  | w :: l => w.2.toNat + reach l

theorem bump_le (t : Vec F S65536 .f32) (x : F .f32) (w : BitVec 32 × BitVec 32) (p : BitVec 32) (n : Nat) (h : p.toNat + (w.2.toNat + n) ≤ 65535) :
    (bump t x w p).toNat + n ≤ 65535 := by
  unfold bump Scalar.select
  split
  · rw [BitVec.toNat_add_of_lt (by omega)]; omega
  · omega

theorem climb_le (t : Vec F S65536 .f32) (x : F .f32) : ∀ (l : List (BitVec 32 × BitVec 32)) (p : BitVec 32), p.toNat + reach l ≤ 65535 →
    (climb t x l p).toNat ≤ 65535
  | [], _, h => h
  | w :: l, p, h => climb_le t x l _ (bump_le t x w p _ h)

theorem clamp_toNat (p : BitVec 32) (h : p.toNat ≤ 65535) : (IntOp.minsi 65535#32 (IntOp.maxsi 1#32 p)).toNat = max 1 p.toNat := by
  have hp : p.toInt = p.toNat := BitVec.toInt_eq_toNat_of_lt (by omega)
  unfold IntOp.minsi IntOp.maxsi
  simp only [BitVec.slt_eq_decide, decide_eq_true_eq]
  split <;> rename_i h₁ <;> split <;> rename_i h₂ <;> simp_all <;> omega

theorem spot_toNat (t : Vec F S65536 .f32) (x : F .f32) : (spot t x).toNat = max 1 (climb t x strides 0#32).toNat :=
  clamp_toNat _ (climb_le t x strides 0#32 (by decide))

theorem spot_range (t : Vec F S65536 .f32) (x : F .f32) : 1 ≤ (spot t x).toNat ∧ (spot t x).toNat ≤ 65535 := by
  have := climb_le t x strides 0#32 (by decide)
  rw [spot_toNat]; omega

theorem spot_pred (t : Vec F S65536 .f32) (x : F .f32) : (spot t x - 1#32).toNat = (spot t x).toNat - 1 := by
  have := spot_range t x
  rw [BitVec.toNat_sub_of_le (by simp [BitVec.le_def]; omega)]; rfl

/-! ## The probes and a vector of queries, as a subcore's steps -/

section Steps

variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name) {α : Type}

local notation "𝕄" => MT nD τ sig Ix (Elt F) Name U Lvl

variable {Q : α → sProp 𝕄}

/-- The subcore's copy of the table, its queries and its answers. -/
abbrev tab : Memref sig .scVector .vmem S65536 .f32 := Memref.whole cc0_scratch0
abbrev qs : Memref sig .scVector .vmem S8192 .f32 := Memref.whole cc0_scratch1
abbrev os : Memref sig .scVector .vmem S8192 .i32 := Memref.whole cc0_scratch2

/-- All of the table's copy, as a gather reads it. -/
abbrev tabRead (f : Vec F S65536 .f32) : Vec F S65536 .f32 := ((tab).access (.whole S65536)).read (Elt F) f

theorem tabRead_eq (f : Vec F S65536 .f32) : tabRead f = f := Memref.read_access_whole (Elt F) cc0_scratch0 f

variable (c s) in
abbrev tabPts (sh : PosShare TreeShare) (t : Vec F S65536 .f32) : sProp 𝕄 := (V d c s).loc cc0_scratch0 ↦{sh} t
variable (c s) in
abbrev qsPts (q : Vec F S8192 .f32) : sProp 𝕄 := (V d c s).loc cc0_scratch1 ↦{fullShare} q
variable (c s) in
abbrev osPts (o : Vec F S8192 .i32) : sProp 𝕄 := (V d c s).loc cc0_scratch2 ↦{fullShare} o

theorem probes_cons (q : Vec F S16 .f32) (w : BitVec 32 × BitVec 32) (l : List (BitVec 32 × BitVec 32)) (p : IVec S16 32)
    (K : IVec S16 32 → Task F c s α) :
    probes tab q (w :: l) p >>= K
      = .op (.assume (k0_chk1 (addi p (bc w.1))) (k0_chk1.dec _)) fun hw =>
        .op (.load tab (.whole _) (View.loadsAt_whole (View.loads_vmem h_S65536))) fun f =>
        (probes tab q l (select (cmpf .olt (entries f (addi p (bc w.1)) (k0_idx1_inb _ hw.down)) q) (addi p (bc w.2)) p) >>= K) := rfl

/-- The vector one probe leaves, lane by lane. -/
theorem probe_lanes (t : Vec F S65536 .f32) (q : Vec F S16 .f32) (w : BitVec 32 × BitVec 32) (p : IVec S16 32) (h) :
    select (cmpf .olt (entries (tabRead t) (addi p (bc w.1)) h) q) (addi p (bc w.2)) p = fun x => bump t (q x) w (p x) := by
  funext x
  show Scalar.select (FloatOps.cmpf .olt (entries (tabRead t) (addi p (bc w.1)) h x) (q x)) _ _ = _
  rw [entries_apply, tabRead_eq]; rfl

theorem probe_inb (w : BitVec 32 × BitVec 32) (n : Nat) (p : IVec S16 32) (hw : w.1.toNat < w.2.toNat)
    (hp : ∀ x, (p x).toNat + (w.2.toNat + n) ≤ 65535) : k0_chk1 (addi p (bc w.1)) := by
  intro a x
  obtain rfl : a = 0 := Subsingleton.elim _ _
  show (p x + w.1).toNat < 65536
  have := hp x
  rw [BitVec.toNat_add_of_lt (by omega)]; omega

/-- Probes in turn, every lane far enough from the table's end: each lane moves as `climb` says. -/
theorem wp_probes (Q : α → sProp 𝕄) (sh : PosShare TreeShare) (t : Vec F S65536 .f32) (q : Vec F S16 .f32) (K : IVec S16 32 → Task F c s α)
    (l : List (BitVec 32 × BitVec 32)) : ∀ (p : IVec S16 32), (∀ w ∈ l, w.1.toNat < w.2.toNat) → (∀ x, (p x).toNat + reach l ≤ 65535) →
      ((tabPts c s d sh t : sProp 𝕄)
        ⊢ iprop((tabPts c s d sh t -∗ wp frame (wpE defs 𝒱 (V d c s) bd) E (K fun x => climb t (q x) l (p x)) Q)
          -∗ wp frame (wpE defs 𝒱 (V d c s) bd) E (probes tab q l p >>= K) Q)) := by
  induction l with
  | nil =>
    intro p _ _
    iintro H Hk
    iapply Hk $$ H
  | cons w l ih =>
    intro p hl hp
    have hin : k0_chk1 (addi p (bc w.1)) := probe_inb w (reach l) p (hl w List.mem_cons_self) hp
    rw [probes_cons]
    iintro H Hk
    iapply (wp_assume (defs := defs) 𝒱 (V d c s) bd E hin)
    iapply (wp_load_rect (defs := defs) 𝒱 (V d c s) bd E (m := tab) (r := .whole _) (S := Finset.univ) (q := sh) (f := t) (Finset.subset_univ _)) $$ H
    iintro H
    rw [probe_lanes]
    iapply (ih (fun x => bump t (q x) w (p x)) (fun w' hw' => hl w' (List.mem_cons_of_mem _ hw'))
      fun x => bump_le t (q x) w (p x) _ (hp x)) $$ H
    iexact Hk

/-- The first `n` answers are in place. -/
def Upto (t : Vec F S65536 .f32) (q : Vec F S8192 .f32) (n : Nat) (o : Vec F S8192 .i32) : Prop :=
  ∀ j : S8192.Idx, (j 0).val < n → o j = answer t (q j)

/-- Sixteen queries in place, as a load reads them, and sixteen answers stored. -/
abbrev qsRead (q : Vec F S8192 .f32) (a : Fin 1 → Nat) (ha : ∀ k, a k + S16.size k ≤ S8192.size k) : Vec F S16 .f32 :=
  ((qs).access (Rect.unit (s := S8192) a S16.size ha)).read (Elt F) q
abbrev osWrite (o : Vec F S8192 .i32) (a : Fin 1 → Nat) (ha : ∀ k, a k + S16.size k ≤ S8192.size k) (v : IVec S16 32) : Vec F S8192 .i32 :=
  ((os).access (Rect.unit (s := S8192) a S16.size ha)).write (Elt F) o v Finset.univ

/-- The insertion points a vector of queries' probes find. -/
abbrev found (t : Vec F S65536 .f32) (q : Vec F S16 .f32) : IVec S16 32 := fun x => climb t (q x) strides (bc 0#32 x)

/-- The numbers a vector of queries settles on. -/
theorem settle_lanes (t : Vec F S65536 .f32) (q : Vec F S16 .f32) (h₀ h₁) :
    nearer q (entries (tabRead t) (subi (inside (found t q)) (bc 1#32)) h₀)
      (entries (tabRead t) (inside (found t q)) h₁) (inside (found t q))
      = fun x => answer t (q x) := by
  funext x
  show Scalar.select (FloatOps.cmpf .ole (FloatOps.subf (q x) (entries (tabRead t) _ h₀ x)) (FloatOps.subf (entries (tabRead t) _ h₁ x) (q x))) _ _ = _
  rw [entries_apply, entries_apply, tabRead_eq]; rfl

theorem settle_inb₁ (t : Vec F S65536 .f32) (q : Vec F S16 .f32) : k0_chk1 (inside (found t q)) := by
  intro a x
  obtain rfl : a = 0 := Subsingleton.elim _ _
  show (spot t (q x)).toNat < 65536
  have := spot_range t (q x); omega

theorem settle_inb₀ (t : Vec F S65536 .f32) (q : Vec F S16 .f32) : k0_chk1 (subi (inside (found t q)) (bc 1#32)) := by
  intro a x
  obtain rfl : a = 0 := Subsingleton.elim _ _
  show (spot t (q x) - 1#32).toNat < 65536
  have := spot_range t (q x); rw [spot_pred]; omega

/-- Sixteen more answers stored after the first `n`. -/
theorem upto_write (t : Vec F S65536 .f32) (q : Vec F S8192 .f32) (n : Nat) (o : Vec F S8192 .i32) (ho : Upto t q n o)
    (ha : ∀ k, (![n] : Fin 1 → Nat) k + S16.size k ≤ S8192.size k) :
    Upto t q (n + 16) (osWrite o ![n] ha fun x => answer t (qsRead q ![n] ha x)) := by
  intro j hj
  by_cases hn : (j 0).val < n
  · refine (View.write_of_not_mem _ _ _ ?_).trans (ho j hn)
    intro hm
    have hm' : j ∈ (Rect.unit (s := S8192) ![n] S16.size ha).set := View.set_slice_whole cc0_scratch2 (Rect.unit (s := S8192) ![n] S16.size ha) ▸ hm
    have := (Rect.mem_set_unit.mp hm' 0).1
    simp at this; omega
  · let x : S16.Idx := fun k => ⟨(j 0).val - n, match k with | 0 => show _ < 16 by omega⟩
    have hx : (Rect.unit (s := S8192) ![n] S16.size ha).emb x = j := by
      funext k
      obtain rfl : k = 0 := Subsingleton.elim _ _
      refine Fin.ext ?_
      show n + 1 * ((j 0).val - n) = _
      omega
    have e := View.write_emb_of_mem (v := (os).access (Rect.unit (s := S8192) ![n] S16.size ha)) (Val := Elt F) o
      (fun x => answer t (qsRead q ![n] ha x)) (Finset.mem_univ x)
    have hx' : ((os).access (Rect.unit (s := S8192) ![n] S16.size ha)).emb x = j := hx
    rw [hx'] at e
    refine e.trans ?_
    show answer t (q ((Rect.unit (s := S8192) ![n] S16.size ha).emb x)) = _
    rw [hx]

/-- One vector of queries: sixteen more answers in place. -/
theorem wp_lane (Q : α → sProp 𝕄) (sh : PosShare TreeShare) (t : Vec F S65536 .f32) (q : Vec F S8192 .f32) (n : Nat) (o : Vec F S8192 .i32)
    (ho : Upto t q n o) (a b : Fin 1 → Nat) (ha : ∀ k, a k + S16.size k ≤ S8192.size k) (hb : ∀ k, b k + S16.size k ≤ S8192.size k)
    (ea : a = ![n]) (eb : b = ![n]) (K : PUnit → Task F c s α) :
    (iprop(tabPts c s d sh t ∗ qsPts c s d q ∗ osPts c s d o) : sProp 𝕄)
      ⊢ iprop((∀ o', ⌜Upto t q (n + 16) o'⌝ -∗ (tabPts c s d sh t ∗ qsPts c s d q ∗ osPts c s d o')
            -∗ wp frame (wpE defs 𝒱 (V d c s) bd) E (K ⟨⟩) Q)
        -∗ wp frame (wpE defs 𝒱 (V d c s) bd) E (lane tab qs os a b ha hb >>= K) Q) := by
  subst ea; subst eb
  rw [show lane tab qs os ![n] ![n] ha hb >>= K
      = .op (.load qs (Rect.unit (s := S8192) ![n] S16.size ha).toLoadRect (View.loadsAt_vmem h_S16)) fun v =>
        probes tab v strides (bc 0#32) >>= settle tab os v ![n] hb K from rfl]
  iintro ⟨Ht, Hq, Ho⟩ Hk
  iapply (wp_load_rect (defs := defs) 𝒱 (V d c s) bd E (m := qs) (r := Rect.unit (s := S8192) ![n] S16.size ha) (S := Finset.univ)
    (q := fullShare) (f := q) (Finset.subset_univ _)) $$ Hq
  iintro Hq
  iapply (wp_probes (defs := defs) 𝒱 d bd E Q sh t (qsRead q ![n] ha) (settle tab os (qsRead q ![n] ha) ![n] hb K) strides (bc 0#32)
    (by decide) (fun _ => show (0#32).toNat + reach strides ≤ 65535 by decide)) $$ Ht
  iintro Ht
  iapply (wp_assume (defs := defs) 𝒱 (V d c s) bd E (settle_inb₁ t (qsRead q ![n] ha)))
  iapply (wp_assume (defs := defs) 𝒱 (V d c s) bd E (settle_inb₀ t (qsRead q ![n] ha)))
  iapply (wp_load_rect (defs := defs) 𝒱 (V d c s) bd E (m := tab) (r := .whole _) (S := Finset.univ) (q := sh) (f := t) (Finset.subset_univ _)) $$ Ht
  iintro Ht
  iapply (wp_load_rect (defs := defs) 𝒱 (V d c s) bd E (m := tab) (r := .whole _) (S := Finset.univ) (q := sh) (f := t) (Finset.subset_univ _)) $$ Ht
  iintro Ht
  iapply (wp_load_rect (defs := defs) 𝒱 (V d c s) bd E (m := os) (r := Rect.unit (s := S8192) ![n] S16.size hb) (S := Finset.univ)
    (q := fullShare) (f := o) (Finset.subset_univ _)) $$ Ho
  iintro Ho
  iapply (wp_store (defs := defs) 𝒱 (V d c s) bd E (m := os) (r := Rect.unit (s := S8192) ![n] S16.size hb) (S := Finset.univ)
    (f := o) (Finset.subset_univ _)) $$ Ho
  iintro Ho
  rw [settle_lanes]
  ihave Hk := Hk $$ %_ %(upto_write t q n o ho ha) [Ht Hq Ho]
  · isplitl [Ht]; · iexact Ht
    isplitl [Hq]; · iexact Hq
    iexact Ho
  iexact Hk

theorem at_eq {a : Fin 1 → Nat} {m n : Nat} (h : a = ![m]) (e : m = n) : a = ![n] := e ▸ h

/-- One trip of the inner loop: a hundred and twenty-eight more answers in place. -/
theorem wp_row (Q : PUnit → sProp 𝕄) (sh : PosShare TreeShare) (t : Vec F S65536 .f32) (q : Vec F S8192 .f32) (k : Fin k0_t2_loop.trips)
    (o : Vec F S8192 .i32) (ho : Upto t q (128 * k.val) o) :
    (iprop(tabPts c s d sh t ∗ qsPts c s d q ∗ osPts c s d o) : sProp 𝕄)
      ⊢ iprop((∀ o', ⌜Upto t q (128 * k.val + 128) o'⌝ -∗ (tabPts c s d sh t ∗ qsPts c s d q ∗ osPts c s d o')
            -∗ wp frame (wpE defs 𝒱 (V d c s) bd) E (.ret ⟨⟩) Q)
        -∗ wp frame (wpE defs 𝒱 (V d c s) bd) E (row tab qs os k) Q) := by
  unfold row
  iintro H Hk
  iapply (wp_lane (defs := defs) 𝒱 d bd E Q sh t q _ o ho _ _ _ _ (k0_off2_eq k) (k0_off3_eq k 0) _) $$ H
  iintro %o₁ %h₁ H
  iapply (wp_lane (defs := defs) 𝒱 d bd E Q sh t q _ o₁ h₁ _ _ _ _ (at_eq (k0_off3_eq k 1) (by rfl)) (at_eq (k0_off4_eq k 0) (by rfl)) _) $$ H
  iintro %o₂ %h₂ H
  iapply (wp_lane (defs := defs) 𝒱 d bd E Q sh t q _ o₂ h₂ _ _ _ _ (at_eq (k0_off4_eq k 1) (by rfl)) (at_eq (k0_off5_eq k 0) (by rfl)) _) $$ H
  iintro %o₃ %h₃ H
  iapply (wp_lane (defs := defs) 𝒱 d bd E Q sh t q _ o₃ h₃ _ _ _ _ (at_eq (k0_off5_eq k 1) (by rfl)) (at_eq (k0_off6_eq k 0) (by rfl)) _) $$ H
  iintro %o₄ %h₄ H
  iapply (wp_lane (defs := defs) 𝒱 d bd E Q sh t q _ o₄ h₄ _ _ _ _ (at_eq (k0_off6_eq k 1) (by rfl)) (at_eq (k0_off7_eq k 0) (by rfl)) _) $$ H
  iintro %o₅ %h₅ H
  iapply (wp_lane (defs := defs) 𝒱 d bd E Q sh t q _ o₅ h₅ _ _ _ _ (at_eq (k0_off7_eq k 1) (by rfl)) (at_eq (k0_off8_eq k 0) (by rfl)) _) $$ H
  iintro %o₆ %h₆ H
  iapply (wp_lane (defs := defs) 𝒱 d bd E Q sh t q _ o₆ h₆ _ _ _ _ (at_eq (k0_off8_eq k 1) (by rfl)) (at_eq (k0_off9_eq k 0) (by rfl)) _) $$ H
  iintro %o₇ %h₇ H
  iapply (wp_lane (defs := defs) 𝒱 d bd E Q sh t q _ o₇ h₇ _ _ _ _ (at_eq (k0_off9_eq k 1) (by rfl)) (k0_off10_eq k) _) $$ H
  iintro %o₈ %h₈ H
  ihave Hk := Hk $$ %o₈ %h₈ H
  iexact Hk

end Steps

end Cert.KernelIdeal.Search

end
-- ==== Proof.TileIdeal.lean ====
module

public import proofs.«01_k».proof.Proof.SearchIdeal
public import proofs.«01_k».proof.Proof.Gen.KernelIdeal.Skeleton
public import Idealize.ShloMosaic.Lib.SparseCore.Quiescent
public import Idealize.ShloMosaic.Lib.Transfers
public import Idealize.ShloMosaic.Lib.Tactic
public import Idealize.ShloMosaic.Lib.Pipeline.Kit

/-! One vector subcore's task: the table fetched once, then thirty-two chunks of queries, each fetched, answered and
    written out. -/

@[expose] public section

set_option maxRecDepth 16384

noncomputable section

namespace Cert.KernelIdeal.Search

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays in HBM: the queries, the table, the answers -/

abbrev xLoc (d : Dev nD) : Loc nD τ sig := (SparseCore.T d).loc main_v0
abbrev yLoc (d : Dev nD) : Loc nD τ sig := (SparseCore.T d).loc main_arg1
abbrev oLoc (d : Dev nD) : Loc nD τ sig := (SparseCore.T d).loc main_v1

abbrev xW : Memref Cert.KernelIdeal.sig Kind.scVector Space.hbm Cert.KernelIdeal.S8388608 EltTy.f32 := Memref.whole Cert.KernelIdeal.main_v0_scv
abbrev yW : Memref Cert.KernelIdeal.sig Kind.scVector Space.hbm Cert.KernelIdeal.S65536 EltTy.f32 := Memref.whole Cert.KernelIdeal.main_arg1_scv
abbrev oW : Memref Cert.KernelIdeal.sig Kind.scVector Space.hbm Cert.KernelIdeal.S8388608 EltTy.i32 := Memref.whole Cert.KernelIdeal.main_v1_scv

variable [FloatOps F]
variable (X : Vec F S8388608 .f32) (Y : Vec F S65536 .f32) (O₀ : Vec F S8388608 .i32)

/-- Every query's answer. -/
def answers : Vec F S8388608 .i32 := fun j => answer Y (X j)

/-- The queries of subcore `i` of SparseCore `c`. -/
def block (c i : Nat) : Finset S8388608.Idx := Finset.univ.filter fun j => (j 0).val / 262144 = 2 * i + c

/-- The answers where the queries are numbered below `n`, the first contents elsewhere. -/
def partly (n : Nat) : Vec F S8388608 .i32 := fun j => if (j 0).val < n then answers X Y j else O₀ j

/-- The share of the table a subcore reads at. -/
def share (c : Fin 2) (i : Fin 16) : PosShare TreeShare := Transfers.dealOf (Transfers.dealOf fullShare Finset.univ c) Finset.univ i

/-- What a subcore is handed, and with the answers in place of `o` what it brings back. -/
def piece (d : Dev nD) (c : Fin 2) (i : Fin 16) (o : Vec F S8388608 .i32) : sProp 𝕄 :=
  iprop((xLoc d ↦[block c.val i.val]{fullShare} X) ∗ (yLoc d ↦{share c i} Y) ∗ (oLoc d ↦[block c.val i.val]{fullShare} o))

instance piece_storable (d : Dev nD) (c : Fin 2) (i : Fin 16) (o : Vec F S8388608 .i32) :
    BI.Storable (upEmb : UEmb _ 𝕄) (piece X Y d c i o) := by
  unfold piece; infer_instance

section Tile

variable (d : Dev nD) (L : grid0.Coords)

abbrev cV (L : grid0.Coords) : Fin τ.nSC := (L 0).castLE hcore0
abbrev jV (L : grid0.Coords) : Fin τ.nSub := (L 1).castLE hsub0
abbrev cL (L : grid0.Coords) : Fin 2 := L 0
abbrev jL (L : grid0.Coords) : Fin 16 := L 1

/-- The subcore. -/
abbrev me (d : Dev nD) (L : grid0.Coords) : Thread nD τ := V d (cV L) (jV L)

/-! ## One chunk -/

abbrev chunk (L : grid0.Coords) (k : Fin k0_t1_loop.trips) : Rect S8388608 :=
  Rect.unit (s := S8388608) (k0_off1 L k) S8192.size (k0_off1_inb L k)
abbrev xK (L : grid0.Coords) (k : Fin k0_t1_loop.trips) : Memref sig .scVector .hbm S8192 .f32 := (xW).slice (chunk L k) (fun _ => rfl)
abbrev oK (L : grid0.Coords) (k : Fin k0_t1_loop.trips) : Memref sig .scVector .hbm S8192 .i32 := (oW).slice (chunk L k) (fun _ => rfl)

/-- The first query of a chunk. -/
def base (L : grid0.Coords) (n : Nat) : Nat := 524288 * (L 1).val + 262144 * (L 0).val + 8192 * n

omit [FloatOps F] in
theorem mem_chunk (k : Fin k0_t1_loop.trips) (j : S8388608.Idx) :
    j ∈ (chunk L k).set ↔ base L k.val ≤ (j 0).val ∧ (j 0).val < base L k.val + 8192 := by
  rw [Rect.mem_set_unit, k0_off1_eq]
  constructor
  · intro h; exact h 0
  · intro h a; rw [Subsingleton.elim a 0]; exact h

omit [FloatOps F] in
theorem xK_set (k : Fin k0_t1_loop.trips) : (xK L k).view.set = (chunk L k).set := View.set_slice_whole _ _
omit [FloatOps F] in
theorem oK_set (k : Fin k0_t1_loop.trips) : (oK L k).view.set = (chunk L k).set := View.set_slice_whole _ _

/-- A chunk's queries, as the fetch lands them. -/
abbrev asked (k : Fin k0_t1_loop.trips) : Vec F S8192 .f32 := (xK L k).view.read (Elt F) X

/-- Answers to a whole chunk, written out, are the answers there. -/
theorem written (k : Fin k0_t1_loop.trips) (o : Vec F S8388608 .i32) (p : Vec F S8192 .i32) (hp : Upto Y (asked X L k) 8192 p) :
    ∀ j ∈ (oK L k).view.set, (oK L k).view.writes (Elt F) o [⟨Rect.whole S8192, p⟩] j = answers X Y j := by
  intro j hj
  obtain ⟨i, -, rfl⟩ := Finset.mem_map.mp hj
  have e : (oK L k).view.emb i = ((oK L k).view.slice (Rect.whole S8192)).emb i :=
    congrArg (oK L k).view.emb (Rect.emb_whole_apply S8192 i).symm
  rw [View.writes_singleton, e, View.write_emb_of_mem _ _ (Finset.mem_univ i), hp i (i 0).isLt, ← e]
  rfl

abbrev cellA (d : Dev nD) (L : grid0.Coords) : GSem nD τ sig := (me d L, .dma cc0_scoped0.sem)
abbrev cellB (d : Dev nD) (L : grid0.Coords) : GSem nD τ sig := (me d L, .dma cc0_scoped1.sem)
abbrev cellC (d : Dev nD) (L : grid0.Coords) : GSem nD τ sig := (me d L, .dma cc0_scoped2.sem)

variable (O : CellTallies nD τ sig (HIx 1)) (W : Waits sig (HIx 1))

/-- The waits recorded so far: beyond `W`, none but the transfers' own. -/
abbrev waited : sProp 𝕄 := iprop(∃ W', ⌜∀ p ∈ W', p ∈ W ∨ p.2 = none⌝ ∗ owes (me d L) O W')

/-- The inner loop's invariant: the chunk's first `128 * n` answers in place. -/
def invRow (q : Vec F S8192 .f32) (n : Nat) (_ : PUnit) : sProp 𝕄 :=
  iprop(tabPts (cV L) (jV L) d fullShare Y ∗ qsPts (cV L) (jV L) d q ∗ ∃ o, ⌜Upto Y q (128 * n) o⌝ ∗ osPts (cV L) (jV L) d o)

/-- A trip of the inner loop. -/
theorem wp_vectors (q : Vec F S8192 .f32) (r : Fin k0_t2_loop.trips) (u : Unit) :
    (invRow Y d L q r.val u : sProp 𝕄)
      ⊢ wp frame (wpE (defs₀ (F := F)) 𝒱₀ (me d L) none) Set.univ (row tab qs os r) (invRow Y d L q (r.val + 1)) := by
  unfold invRow
  iintro ⟨Ht, Hq, %p, %hp, Hp⟩
  iapply (wp_row (defs := defs₀ (F := F)) 𝒱₀ d none Set.univ _ fullShare Y q r p hp) $$ [Ht Hq Hp]
  · isplitl [Ht]; · iexact Ht
    isplitl [Hq] <;> iassumption
  iintro %p' %hp' ⟨Ht, Hq, Hp⟩
  sl_step
  isplitl [Ht]; · iexact Ht
  isplitl [Hq]; · iexact Hq
  iexists p'; isplitr
  · ipureintro; exact hp'
  · iexact Hp

/-- What a trip of the outer loop keeps: the table, the chunk buffers, the semaphores, the waits. -/
abbrev kept : sProp 𝕄 :=
  iprop(Transfers.MayWaits (me d L) (none : HIx 1) O
    ∗ tabPts (cV L) (jV L) d fullShare Y ∗ (∃ q, qsPts (cV L) (jV L) d q) ∗ (∃ o, osPts (cV L) (jV L) d o)
    ∗ semVal (cellB d L) 0 ∗ semVal (cellC d L) 0 ∗ waited d L O W)

set_option maxHeartbeats 4000000 in
/-- One chunk: fetched, answered, written out. -/
theorem wp_chunk (k : Fin k0_t1_loop.trips) (u : Unit) (o : Vec F S8388608 .i32) :
    (iprop(kept Y d L O W
        ∗ ((xK L k).view.loc (me d L) ↦[(xK L k).view.set]{fullShare} X)
        ∗ ((oK L k).view.loc (me d L) ↦[(oK L k).view.set]{fullShare} o)) : sProp 𝕄)
      ⊢ wp frame (wpE (defs₀ (F := F)) 𝒱₀ (me d L) none) Set.univ
          (k0_t1_body L xW (Memref.isWhole_whole _) yW (Memref.isWhole_whole _) oW (Memref.isWhole_whole _)
            tab (Memref.isWhole_whole _) qs (Memref.isWhole_whole _) os (Memref.isWhole_whole _) cc0_scoped0 cc0_scoped1 cc0_scoped2 k u)
          fun _ => iprop(kept Y d L O W
            ∗ ((xK L k).view.loc (me d L) ↦[(xK L k).view.set]{fullShare} X)
            ∗ ((oK L k).view.loc (me d L) ↦[(oK L k).view.set]{fullShare} answers X Y)) := by
  unfold k0_t1_body
  iintro ⟨⟨Hmw, Ht, ⟨%q, Hq⟩, ⟨%p, Hp⟩, HsB, HsC, %W', %hW', HO⟩, Hx, Ho⟩
  ihave Hq' := (show (qsPts (cV L) (jV L) d q : sProp 𝕄) ⊢ (qs).view.loc (me d L) ↦{fullShare} q from Entails.of_eq rfl) $$ Hq
  ihave Hp' := (show (osPts (cV L) (jV L) d p : sProp 𝕄) ⊢ (os).view.loc (me d L) ↦{fullShare} p from Entails.of_eq rfl) $$ Hp
  sl_exec (disch := exact View.amount_pos _ _ (show 0 < S8192.numel by decide))
  ihave Hq := (show ((qs).view.loc (me d L) ↦{fullShare} View.write (Elt F) (qs).view q (wp_chunk.sl.dma0 X L k) Finset.univ : sProp 𝕄)
      ⊢ qsPts (cV L) (jV L) d (asked X L k) from Entails.of_eq (by rw [View.write_whole_univ]; rfl)) $$ Hq'
  ihave Hp := (show ((os).view.loc (me d L) ↦{fullShare} p : sProp 𝕄) ⊢ osPts (cV L) (jV L) d p from Entails.of_eq rfl) $$ Hp'
  sl_for (invRow Y d L (asked X L k)) $$ [Ht Hq Hp]
  case region => exact fun r u => wp_vectors Y d L (asked X L k) r u
  · unfold invRow
    isplitl [Ht]; · iexact Ht
    isplitl [Hq]; · iexact Hq
    iexists p; isplitr
    · ipureintro; exact fun j hj => absurd hj (Nat.not_lt_zero _)
    · iexact Hp
  iintro %_ HI
  unfold invRow
  icases HI with ⟨Ht, Hq, %p', %hp', Hp⟩
  ihave Hp' := (show (osPts (cV L) (jV L) d p' : sProp 𝕄) ⊢ (os).view.loc (me d L) ↦{fullShare} p' from Entails.of_eq rfl) $$ Hp
  sl_exec (disch := exact View.amount_pos _ _ (show 0 < S8192.numel by decide))
  sl_step
  isplitr [Hx Ho]
  · isplitl [Hmw]; · iexact Hmw
    isplitl [Ht]; · iexact Ht
    isplitl [Hq]; · iexists _; iexact Hq
    isplitl [Hp']; · iexists p'; iexact Hp'
    isplitl [HsB]; · iexact HsB
    isplitl [HsC]; · iexact HsC
    iexists _; isplitr
    swap; · iexact HO
    ipureintro; intro w hw
    rcases Finset.mem_insert.mp hw with hw | hw; · exact .inr (hw ▸ rfl)
    rcases Finset.mem_insert.mp hw with hw | hw; · exact .inr (hw ▸ rfl)
    exact hW' w hw
  · isplitl [Hx]; · iexact Hx
    iapply (Entails.of_eq (pointsTo_congr (written X Y L k o _ hp'))); iexact Ho

omit [FloatOps F] in
theorem chunk_subset (k : Fin k0_t1_loop.trips) : (chunk L k).set ⊆ block (cL L).val (jL L).val := by
  intro j hj
  have h := (mem_chunk L k j).mp hj
  have hk : k.val < 32 := k.isLt
  unfold base at h
  refine Finset.mem_filter.mpr ⟨Finset.mem_univ j, ?_⟩
  show (j 0).val / 262144 = 2 * (L 1).val + (L 0).val
  omega

/-- Off a chunk its answers change nothing. -/
theorem partly_off (k : Fin k0_t1_loop.trips) :
    ∀ j ∈ block (cL L).val (jL L).val \ (chunk L k).set, partly X Y O₀ (base L k.val) j = partly X Y O₀ (base L (k.val + 1)) j := by
  intro j hj
  have h := mt (mem_chunk L k j).mpr (Finset.mem_sdiff.mp hj).2
  unfold partly base at *
  by_cases h' : (j 0).val < 524288 * (L 1).val + 262144 * (L 0).val + 8192 * k.val
  · rw [if_pos h', if_pos (by omega)]
  · rw [if_neg h', if_neg (by omega)]

/-- On a chunk, once it is done, its answers are there. -/
theorem partly_on (k : Fin k0_t1_loop.trips) :
    ∀ j ∈ (chunk L k).set, answers X Y j = partly X Y O₀ (base L (k.val + 1)) j := by
  intro j hj
  have h := (mem_chunk L k j).mp hj
  unfold partly base at *
  rw [if_pos (by omega)]

/-- Before the first chunk a block is as it was. -/
theorem partly_none : ∀ j ∈ block (cL L).val (jL L).val, O₀ j = partly X Y O₀ (base L 0) j := by
  intro j hj
  have h : (j 0).val / 262144 = 2 * (L 1).val + (L 0).val := (Finset.mem_filter.mp hj).2
  unfold partly base
  rw [if_neg (by omega)]

/-- After the last chunk a block is answered. -/
theorem partly_all : ∀ j ∈ block (cL L).val (jL L).val, partly X Y O₀ (base L 32) j = answers X Y j := by
  intro j hj
  have h : (j 0).val / 262144 = 2 * (L 1).val + (L 0).val := (Finset.mem_filter.mp hj).2
  unfold partly base
  rw [if_pos (by omega)]

/-- The outer loop's invariant: the first `n` chunks of the block answered. -/
def invChunk (n : Nat) (_ : PUnit) : sProp 𝕄 :=
  iprop(kept Y d L O W ∗ (xLoc d ↦[block (cL L).val (jL L).val]{fullShare} X)
    ∗ (oLoc d ↦[block (cL L).val (jL L).val]{fullShare} partly X Y O₀ (base L n)))

omit [FloatOps F] in
theorem pts_xK (k : Fin k0_t1_loop.trips) :
    ((xK L k).view.loc (me d L) ↦[(xK L k).view.set]{fullShare} X : sProp 𝕄) = xLoc d ↦[(chunk L k).set]{fullShare} X := by
  rw [xK_set]
omit [FloatOps F] in
theorem pts_oK (k : Fin k0_t1_loop.trips) (o : Vec F S8388608 .i32) :
    ((oK L k).view.loc (me d L) ↦[(oK L k).view.set]{fullShare} o : sProp 𝕄) = oLoc d ↦[(chunk L k).set]{fullShare} o := by
  rw [oK_set]

/-- A trip of the outer loop. -/
theorem wp_trip (k : Fin k0_t1_loop.trips) (u : Unit) :
    (invChunk X Y O₀ d L O W k.val u : sProp 𝕄)
      ⊢ wp frame (wpE (defs₀ (F := F)) 𝒱₀ (me d L) none) Set.univ
          (k0_t1_body L xW (Memref.isWhole_whole _) yW (Memref.isWhole_whole _) oW (Memref.isWhole_whole _)
            tab (Memref.isWhole_whole _) qs (Memref.isWhole_whole _) os (Memref.isWhole_whole _) cc0_scoped0 cc0_scoped1 cc0_scoped2 k u)
          (invChunk X Y O₀ d L O W (k.val + 1)) := by
  unfold invChunk
  iintro ⟨Hk, Hx, Ho⟩
  ihave Hx := (pointsTo_split_subset (chunk_subset L k)).1 $$ Hx
  ihave Ho := (pointsTo_split_subset (chunk_subset L k)).1 $$ Ho
  icases Hx with ⟨Hx, Hxr⟩
  icases Ho with ⟨Ho, Hor⟩
  ihave Hx := (Entails.of_eq (pts_xK (F := F) X d L k).symm) $$ Hx
  ihave Ho := (Entails.of_eq (pts_oK (F := F) d L k _).symm) $$ Ho
  iapply (wp_wand frame _ _) $$ [Hk Hx Ho]
  · iapply (wp_chunk X Y d L O W k u _) $$ [Hk Hx Ho]
    isplitl [Hk]; · iexact Hk
    isplitl [Hx] <;> iassumption
  iintro %_ ⟨Hk, Hx, Ho⟩
  ihave Hx := (Entails.of_eq (pts_xK (F := F) X d L k)) $$ Hx
  ihave Ho := (Entails.of_eq ((pts_oK (F := F) d L k _).trans (pointsTo_congr (partly_on X Y O₀ L k)))) $$ Ho
  ihave Hor := (Entails.of_eq (pointsTo_congr (partly_off X Y O₀ L k))) $$ Hor
  isplitl [Hk]; · iexact Hk
  isplitl [Hx Hxr]
  · iapply (pointsTo_split_subset (chunk_subset L k)).2
    isplitl [Hx] <;> iassumption
  · iapply (pointsTo_split_subset (chunk_subset L k)).2
    isplitl [Ho] <;> iassumption

/-! ## The task -/

omit [FloatOps F] in
/-- The subcore's semaphores: the three its transfers use, and the rest. -/
theorem ownSems0_eq :
    (ownSems0 (me d L) : sProp 𝕄)
      = iprop(semVal (cellA d L) 0 ∗ semVal (cellB d L) 0 ∗ semVal (cellC d L) 0
          ∗ bigSep ((((ownCells (me d L)).erase (cellA d L)).erase (cellB d L)).erase (cellC d L)) fun g => semVal g 0) := by
  have own (s : SemLoc sig) (h : s.isScoped .scVector = true) : ((me d L, s) : GSem nD τ sig) ∈ ownCells (me d L) :=
    (mem_ownCells (g := (me d L, s))).mpr ⟨rfl, h⟩
  have ne {s s' : SemLoc sig} (h : s ≠ s') : ((me d L, s) : GSem nD τ sig) ≠ (me d L, s') := fun e => h (Prod.ext_iff.mp e).2
  unfold SparseCore.Cfg.ownSems0
  rw [SparseCore.bigSep_erase' (own (.dma cc0_scoped0.sem) (by decide)),
    SparseCore.bigSep_erase' (Finset.mem_erase.mpr ⟨ne (by decide), own (.dma cc0_scoped1.sem) (by decide)⟩),
    SparseCore.bigSep_erase' (Finset.mem_erase.mpr ⟨ne (by decide), Finset.mem_erase.mpr ⟨ne (by decide), own (.dma cc0_scoped2.sem) (by decide)⟩⟩)]

/-- A scratch buffer of the subcore's. -/
abbrev mine (L : grid0.Coords) (b : Ref sig .scVector) : DevRef τ sig := (Proc.scVector (cV L) (jV L)).devRef b

omit [FloatOps F] in
/-- The subcore's buffers: the three scratch buffers, and the rest. -/
theorem ownBufs_eq :
    (ownBufs (me d L) : sProp 𝕄)
      = iprop((∃ t, tabPts (cV L) (jV L) d fullShare t) ∗ (∃ q, qsPts (cV L) (jV L) d q) ∗ (∃ o, osPts (cV L) (jV L) d o)
          ∗ bigSep ((((ownRefs (τ := τ) (.scVector (cV L) (jV L))).erase (mine L cc0_scratch0)).erase (mine L cc0_scratch1)).erase (mine L cc0_scratch2))
              fun b => iprop(∃ f, ((d, b) : Loc nD τ sig) ↦{fullShare} f)) := by
  have own (b : Ref sig .scVector) (h : (mine L b).owner = .proc (.scVector (cV L) (jV L))) : mine L b ∈ ownRefs (τ := τ) (.scVector (cV L) (jV L)) :=
    SparseCore.Cfg.mem_ownRefs_of_owner h
  have ne {b b' : Ref sig .scVector} (h : b ≠ b') : mine L b ≠ mine L b' := fun e => h (Proc.devRef_injective _ e)
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩)]
  rfl

set_option maxHeartbeats 4000000 in
/-- The task on a subcore: from its block's queries to its block's answers. -/
theorem tile_body (hF : (K (F := F)).Facts) (hO : ∀ g, O g none = 0) :
    iprop(levAts (K (F := F)).L (K (F := F)).lev ∗ emp ∗ piece X Y d (cL L) (jL L) O₀
        ∗ scopedBufs (me d L) ∗ scopedSems0 (me d L) ∗ owes (me d L) O W)
      ⊢ wp frame (wpE (defs₀ (F := F)) 𝒱₀ (me d L) none) Set.univ
          (cc0__sc_lookup L xW (Memref.isWhole_whole _) yW (Memref.isWhole_whole _) oW (Memref.isWhole_whole _)
            tab (Memref.isWhole_whole _) qs (Memref.isWhole_whole _) os (Memref.isWhole_whole _) cc0_scoped0 cc0_scoped1 cc0_scoped2)
          fun _ => iprop(piece X Y d (cL L) (jL L) (answers X Y) ∗ scopedBufs (me d L) ∗ scopedSems0 (me d L) ∗ waited d L O W) := by
  simp only [cc0__sc_lookup_eq_skeleton]; unfold cc0__sc_lookup_skel piece
  rw [(K (F := F)).scopedBufs_V hF d (cV L) (jV L), SparseCore.Cfg.scopedSems0_V (Val := Elt F) d (cV L) (jV L), ownSems0_eq, ownBufs_eq]
  iintro ⟨#Hlv, -, ⟨Hx, Hy, Ho⟩, ⟨⟨%t, Ht⟩, Hq, Hp, Hbufs⟩, ⟨HsA, HsB, HsC, Hsems⟩, HO⟩
  ihave Hmw := (show levAts (K (F := F)).L (K (F := F)).lev ⊢ Transfers.MayWaits (me d L) (none : HIx 1) O from
    (K (F := F)).mayWaits_none (thr := me d L) hO) $$ Hlv
  ihave Hy' := (show (yLoc d ↦{share (cL L) (jL L)} Y : sProp 𝕄) ⊢ (yW).view.loc (me d L) ↦{share (cL L) (jL L)} Y from Entails.of_eq rfl) $$ Hy
  ihave Ht' := (show (tabPts (cV L) (jV L) d fullShare t : sProp 𝕄) ⊢ (tab).view.loc (me d L) ↦{fullShare} t from Entails.of_eq rfl) $$ Ht
  ihave Ho := (Entails.of_eq (pointsTo_congr (partly_none X Y O₀ L))) $$ Ho
  sl_exec
  ihave Ht := (show ((tab).view.loc (me d L) ↦{fullShare} View.write (Elt F) (tab).view t (tile_body.sl.dma0 Y) Finset.univ : sProp 𝕄)
      ⊢ tabPts (cV L) (jV L) d fullShare Y from Entails.of_eq (by rw [View.write_whole_univ]; rfl)) $$ Ht'
  sl_for (invChunk X Y O₀ d L O W) $$ [Hmw Ht Hq Hp HsB HsC HO Hx Ho]
  case region => exact fun k u => wp_trip X Y O₀ d L O W k u
  · unfold invChunk
    isplitr [Hx Ho]
    · isplitl [Hmw]; · iexact Hmw
      isplitl [Ht]; · iexact Ht
      isplitl [Hq]; · iexact Hq
      isplitl [Hp]; · iexact Hp
      isplitl [HsB]; · iexact HsB
      isplitl [HsC]; · iexact HsC
      iexists _; isplitr
      swap; · iexact HO
      ipureintro; intro w hw
      rcases Finset.mem_insert.mp hw with hw | hw; · exact .inr (hw ▸ rfl)
      exact .inl hw
    · isplitl [Hx] <;> iassumption
  iintro %_ HI
  unfold invChunk
  icases HI with ⟨⟨-, Ht, Hq, Hp, HsB, HsC, HW⟩, Hx, Ho⟩
  sl_exec
  sl_step
  ihave Ho := (Entails.of_eq (pointsTo_congr (partly_all X Y O₀ L))) $$ Ho
  isplitl [Hx Hy' Ho]
  · isplitl [Hx]; · iexact Hx
    isplitl [Hy'] <;> iassumption
  isplitl [Ht Hq Hp Hbufs]
  · isplitl [Ht]; · iexists _; iexact Ht
    isplitl [Hq]; · iexact Hq
    isplitl [Hp] <;> iassumption
  isplitl [HsA HsB HsC Hsems]
  · isplitl [HsA]; · iexact HsA
    isplitl [HsB]; · iexact HsB
    isplitl [HsC] <;> iassumption
  iexact HW

end Tile

end Cert.KernelIdeal.Search

end
-- ==== Proof.RunIdeal.lean ====
module

public import proofs.«01_k».proof.Proof.TileIdeal
public import Idealize.ShloMosaic.Lib.StableHlo.Run

/-! The whole program: the queries flattened, the SparseCore call over them, the answers shaped as the queries were. -/

@[expose] public section

set_option maxRecDepth 16384

noncomputable section

namespace Cert.KernelIdeal.Search

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the call carries -/

variable (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_v2

/-- A device's queries in one row, and its table. -/
abbrev queries (d : Dev nD) : Vec F S8388608 .f32 := shapeCast S8388608 (m (aLoc d)) shapeCasts_S2048x4096_S8388608
abbrev table (d : Dev nD) : Vec F S65536 .f32 := m (yLoc d)

variable [FloatOps F]

/-- The answers in one row, and shaped as the queries. -/
abbrev replies (d : Dev nD) : Vec F S8388608 .i32 := answers (queries m d) (table m d)
abbrev shaped (d : Dev nD) : Vec F S2048x4096 .i32 := shapeCast S2048x4096 (replies m d) shapeCasts_S8388608_S2048x4096

/-- One SparseCore's sixteen pieces. -/
def half (d : Dev nD) (c : Fin 2) (o : Vec F S8388608 .i32) : sProp 𝕄 :=
  bigSep Finset.univ fun i : Fin 16 => piece (queries m d) (table m d) d c i o

instance half_storable (d : Dev nD) (c : Fin 2) (o : Vec F S8388608 .i32) : BI.Storable (upEmb : UEmb _ 𝕄) (half m d c o) := by
  unfold half; infer_instance

/-- The call takes every SparseCore's pieces and brings them back answered; each subcore its own piece. -/
def P : (K (F := F)).Pay (nD := nD) (Val := Elt F) (Name := ℕ) (U := UU) where
  st := fun q d c => match q with | 0 => half m d c (m (oLoc d))
  dn := fun q d c => match q with | 0 => half m d c (replies m d)
  go := fun q d c i => match q with | 0 => piece (queries m d) (table m d) d c i (m (oLoc d))
  td := fun q d c i => match q with | 0 => piece (queries m d) (table m d) d c i (replies m d)
  x := fun _ _ => iprop(emp)

instance P_storable : (P (F := F) m).IsStorable where
  st q d c := match q with | 0 => half_storable m d c (m (oLoc d))
  dn q d c := match q with | 0 => half_storable m d c (replies m d)
  go q d c i := match q with | 0 => piece_storable (queries m d) (table m d) d c i (m (oLoc d))
  td q d c i := match q with | 0 => piece_storable (queries m d) (table m d) d c i (replies m d)

/-! ## The subcores' tasks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_lookup (coordsV c s)
          (Memref.whole main_v0_scv) (Memref.isWhole_whole _) (Memref.whole main_arg1_scv) (Memref.isWhole_whole _)
          (Memref.whole main_v1_scv) (Memref.isWhole_whole _)
          tab (Memref.isWhole_whole _) qs (Memref.isWhole_whole _) os (Memref.isWhole_whole _) cc0_scoped0 cc0_scoped1 cc0_scoped2) ⟨⟩ c s := rfl

omit [FloatOps F] in
theorem weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (queries m d) (table m d) (m (oLoc d)) d (coordsV ⟨_, hci.1⟩ ⟨_, hci.2⟩) O W hF hO).trans
    (wp_mono frame _ _ fun _ => weaken)

theorem vecSplit : (K (F := F)).VecSplit' (P m) 0 := by
  intro d c
  show half m d c (m (oLoc d)) ⊢ |={Set.univ}=> iprop(half m d c (m (oLoc d)) ∗ (half m d c (replies m d) -∗ half m d c (replies m d)))
  iintro H; imodintro
  isplitl [H]; · iexact H
  iintro H; iexact H

/-! ## The arrays dealt out -/

omit [FloatOps F] in
theorem block_disjoint (c c' : Fin 2) (i i' : Fin 16) (h : c ≠ c' ∨ i ≠ i') : Disjoint (block c.val i.val) (block c'.val i'.val) := by
  refine Finset.disjoint_left.mpr fun j hj hj' => ?_
  have e := (Finset.mem_filter.mp hj).2
  have e' := (Finset.mem_filter.mp hj').2
  rcases h with h | h <;> exact h (Fin.ext (by omega))

omit [FloatOps F] in
theorem block_cover : (Finset.univ : Finset (Fin 2)).biUnion (fun c => (Finset.univ : Finset (Fin 16)).biUnion fun i => block c.val i.val) = Finset.univ := by
  refine Finset.eq_univ_of_forall fun j => ?_
  have h : (j 0).val < 8388608 := (j 0).isLt
  refine Finset.mem_biUnion.mpr ⟨⟨(j 0).val / 262144 % 2, by omega⟩, Finset.mem_univ _, Finset.mem_biUnion.mpr
    ⟨⟨(j 0).val / 524288, by omega⟩, Finset.mem_univ _, Finset.mem_filter.mpr ⟨Finset.mem_univ _, ?_⟩⟩⟩
  show (j 0).val / 262144 = 2 * ((j 0).val / 524288) + (j 0).val / 262144 % 2
  omega

omit [FloatOps F] in
/-- An array in blocks. -/
theorem pts_blocks {ℓ : Loc nD τ sig} (B : Fin 2 → Fin 16 → Finset (Idx ℓ)) (f : Buf (Elt F) ℓ)
    (hd : ∀ c c' i i', c ≠ c' ∨ i ≠ i' → Disjoint (B c i) (B c' i'))
    (hc : (Finset.univ : Finset (Fin 2)).biUnion (fun c => (Finset.univ : Finset (Fin 16)).biUnion (B c)) = Finset.univ) :
    (ℓ ↦{fullShare} f : sProp 𝕄) = bigSep Finset.univ fun c : Fin 2 => bigSep Finset.univ fun i : Fin 16 => ℓ ↦[B c i]{fullShare} f := by
  rw [← hc, pointsTo_biUnion Finset.univ _ fun c _ c' _ h => (Finset.disjoint_biUnion_left _ _ _).mpr fun i _ =>
    (Finset.disjoint_biUnion_right _ _ _).mpr fun i' _ => hd c c' i i' (.inl h)]
  exact bigSep_congr fun c _ => pointsTo_biUnion Finset.univ _ fun i _ i' _ h => hd c c i i' (.inr h)

/-- The three arrays whole are the thirty-two pieces. -/
theorem arrays_eq (d : Dev nD) (o : Vec F S8388608 .i32) :
    (iprop((xLoc d ↦{fullShare} queries m d) ∗ (yLoc d ↦{fullShare} table m d) ∗ (oLoc d ↦{fullShare} o)) : sProp 𝕄)
      = bigSep Finset.univ fun c : Fin 2 => half m d c o := by
  unfold half piece
  simp only [bigSep_sep']
  rw [← pts_blocks (ℓ := xLoc d) (fun c i => block c.val i.val) (queries m d) block_disjoint block_cover,
    ← pts_blocks (ℓ := oLoc d) (fun c i => block c.val i.val) o block_disjoint block_cover,
    Transfers.pointsTo_deal (ℓ := yLoc d) (Finset.univ : Finset (Fin 2)) ⟨0, Finset.mem_univ _⟩ fullShare]
  congr 2
  exact bigSep_congr fun c _ => Transfers.pointsTo_deal (ℓ := yLoc d) (Finset.univ : Finset (Fin 16)) ⟨0, Finset.mem_univ _⟩ _

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have none_left {I : Type} (s : Finset I) : (bigSep s fun _ => iprop(emp)) = (iprop(emp) : sProp 𝕄) := bigSep_emp_const s
  isplitr; · rw [none_left]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none_left]
  iempintro

/-! ## @main -/

abbrev a' : DevRef τ sig := Proc.devRef .tc (main_arg0 : Ref sig .tc)
abbrev y' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opIn : HloOp τ sig (Elt F) := StableHlo.reshape main_arg0 main_v0 (rfl : (.f32 : EltTy) = .f32) shapeCasts_S2048x4096_S8388608
abbrev opOut : HloOp τ sig (Elt F) := StableHlo.reshape main_v1 main_v2 (rfl : (.i32 : EltTy) = .i32) shapeCasts_S8388608_S2048x4096

abbrev S5 : Finset (DevRef τ sig) := {a', y', x', o', r'}

omit [FloatOps F] in
theorem held_eq (d : Dev nD) (W : Valuation τ sig (Elt F)) :
    (held (T d) S5 W : sProp 𝕄) = iprop((aLoc d ↦{fullShare} W a') ∗ (yLoc d ↦{fullShare} W y') ∗ (xLoc d ↦{fullShare} W x')
      ∗ (oLoc d ↦{fullShare} W o') ∗ (rLoc d ↦{fullShare} W r')) := by
  unfold held
  rw [SparseCore.bigSep_insert' (by decide), SparseCore.bigSep_insert' (by decide), SparseCore.bigSep_insert' (by decide),
    SparseCore.bigSep_insert' (by decide), bigSep_singleton]

/-- The launch's contents; and the call's arrays answered. -/
def V0 (d : Dev nD) : Valuation τ sig (Elt F) := fun b => m (d, b)
def V2 (d : Dev nD) : Valuation τ sig (Elt F) := Function.update (opIn.result (V0 m d)) o' (replies m d)

omit [FloatOps F] in
theorem unscoped_held (d : Dev nD) : (unscopedBufs d (fun b => m ((SparseCore.T d).loc b)) : sProp 𝕄) = held (T d) S5 (V0 m d) := by
  rw [held_eq]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

omit [FloatOps F] in
theorem in_same (W : Valuation τ sig (Elt F)) (b : DevRef τ sig) (h : b ≠ x') : opIn.result W b = W b :=
  opIn.result_of_not_mem W fun hb => h (Finset.mem_singleton.mp hb)
omit [FloatOps F] in
theorem out_same (W : Valuation τ sig (Elt F)) (b : DevRef τ sig) (h : b ≠ r') : opOut.result W b = W b :=
  opOut.result_of_not_mem W fun hb => h (Finset.mem_singleton.mp hb)

omit [FloatOps F] in
theorem held_in (d : Dev nD) :
    (held (T d) S5 (opIn.result (V0 m d)) : sProp 𝕄) = iprop((aLoc d ↦{fullShare} m (aLoc d)) ∗ (yLoc d ↦{fullShare} table m d)
      ∗ (xLoc d ↦{fullShare} queries m d) ∗ (oLoc d ↦{fullShare} m (oLoc d)) ∗ (rLoc d ↦{fullShare} m (rLoc d))) := by
  rw [held_eq, in_same _ a' (by decide), in_same _ y' (by decide), in_same _ o' (by decide), in_same _ r' (by decide),
    show opIn.result (V0 m d) x' = queries m d from StableHlo.reshape_result _ _ _ _ _ _ _]
  rfl

theorem V2_ne (d : Dev nD) (b : DevRef τ sig) (h : b ≠ o') : V2 m d b = opIn.result (V0 m d) b := Function.update_of_ne h _ _

theorem held_call (d : Dev nD) :
    (held (T d) S5 (V2 m d) : sProp 𝕄) = iprop((aLoc d ↦{fullShare} m (aLoc d)) ∗ (yLoc d ↦{fullShare} table m d)
      ∗ (xLoc d ↦{fullShare} queries m d) ∗ (oLoc d ↦{fullShare} replies m d) ∗ (rLoc d ↦{fullShare} m (rLoc d))) := by
  rw [held_eq, V2_ne _ _ a' (by decide), V2_ne _ _ y' (by decide), V2_ne _ _ x' (by decide), V2_ne _ _ r' (by decide),
    show V2 m d o' = replies m d from Function.update_self _ _ _, in_same _ a' (by decide), in_same _ y' (by decide), in_same _ r' (by decide),
    show opIn.result (V0 m d) x' = queries m d from StableHlo.reshape_result _ _ _ _ _ _ _]
  rfl

theorem held_out (d : Dev nD) :
    (held (T d) S5 (opOut.result (V2 m d)) : sProp 𝕄) = iprop((aLoc d ↦{fullShare} m (aLoc d)) ∗ (yLoc d ↦{fullShare} table m d)
      ∗ (xLoc d ↦{fullShare} V2 m d x') ∗ (oLoc d ↦{fullShare} V2 m d o') ∗ (rLoc d ↦{fullShare} shaped m d)) := by
  rw [held_eq, out_same _ a' (by decide), out_same _ y' (by decide), out_same _ x' (by decide), out_same _ o' (by decide),
    V2_ne _ _ a' (by decide), V2_ne _ _ y' (by decide), in_same _ a' (by decide), in_same _ y' (by decide),
    show opOut.result (V2 m d) r' = shaped m d from by
      refine (StableHlo.reshape_result _ _ _ _ _ _ _).trans ?_
      rw [show V2 m d o' = replies m d from Function.update_self _ _ _]
      rfl]
  rfl

theorem in_bufs : (opIn (F := F)).bufs ⊆ S5 := show ({a', x'} : Finset (DevRef τ sig)) ⊆ S5 by decide
theorem out_bufs : (opOut (F := F)).bufs ⊆ S5 := show ({o', r'} : Finset (DevRef τ sig)) ⊆ S5 by decide

/-- What the program leaves: the arguments as they were, the result the answers. -/
abbrev FIN (d : Dev nD) : sProp 𝕄 :=
  iprop((aLoc d ↦{fullShare} m (aLoc d)) ∗ (yLoc d ↦{fullShare} m (yLoc d)) ∗ (rLoc d ↦{fullShare} shaped m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) in_bufs (V := V0 m d)) $$ [Hb Hheld]
  · isplitl [Hb] <;> iassumption
  iintro ⟨Hb, Hheld⟩
  ihave Hh := (Entails.of_eq (held_in (F := F) m d)) $$ Hheld
  icases Hh with ⟨Ha, Hy, Hx, Ho, Hr⟩
  rw [wp_ret]; imodintro
  iapply ((K (F := F)).wp_run (D (F := F)) 𝒱 (EH := EH) (P := P m) κ d 0) $$ [Hst Ha Hx Hy Ho Hr Hb Hts]
  isplitr; · iexact Hctx
  isplitl [Hst]; · iexact Hst
  isplitl [Hx Hy Ho]
  · iapply (show (iprop((xLoc d ↦{fullShare} queries m d) ∗ (yLoc d ↦{fullShare} table m d) ∗ (oLoc d ↦{fullShare} m (oLoc d))) : sProp 𝕄)
      ⊢ bigSep Finset.univ fun c : Fin ((K (F := F)).nCore 0) => (P m).st 0 d c from Entails.of_eq (arrays_eq m d (m (oLoc d))))
    isplitl [Hx]; · iexact Hx
    isplitl [Hy] <;> iassumption
  iintro ⟨Hst, Hdn⟩
  ihave Hdn := (show (bigSep Finset.univ fun c : Fin ((K (F := F)).nCore 0) => (P m).dn 0 d c)
      ⊢ (iprop((xLoc d ↦{fullShare} queries m d) ∗ (yLoc d ↦{fullShare} table m d) ∗ (oLoc d ↦{fullShare} replies m d)) : sProp 𝕄)
      from Entails.of_eq (arrays_eq m d (replies m d)).symm) $$ Hdn
  icases Hdn with ⟨Hx, Hy, Ho⟩
  iapply (wp_hlo_within 𝒱 (SparseCore.T d) none Set.univ (op := opOut) (S := S5) out_bufs (V := V2 m d)) $$ [Hb Ha Hy Hx Ho Hr]
  · isplitl [Hb]; · iexact Hb
    rw [held_call]
    isplitl [Ha]; · iexact Ha
    isplitl [Hy]; · iexact Hy
    isplitl [Hx]; · iexact Hx
    isplitl [Ho] <;> iassumption
  iintro ⟨Hb, Hheld⟩
  ihave Hh := (Entails.of_eq (held_out (F := F) m d)) $$ Hheld
  icases Hh with ⟨Ha, Hy, -, -, Hr⟩
  rw [wp_ret]; imodintro; imodintro
  isplitl [Hst]; · iexact Hst
  isplitr [Hb Hts]
  · isplitl [Ha]; · iexact Ha
    isplitl [Hy] <;> iassumption
  isplitl [Hb] <;> iassumption

def fq (d : Dev nD) (s' : Phys nD τ sig (Elt F)) : Prop :=
  s'.mem.mem (aLoc d) = m (aLoc d) ∧ s'.mem.mem (yLoc d) = m (yLoc d) ∧ s'.mem.mem (rLoc d) = shaped m d

theorem hfin (d : Dev nD) (s' : Phys nD τ sig (Elt F)) : iprop(FIN m d ∗ SI s') ⊢ (⌜fq m d s'⌝ : sProp 𝕄) := by
  iintro ⟨⟨Ha, Hy, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := yLoc d) (I := Finset.univ) (q := fullShare) (f := m (yLoc d)))) $$ [HSI Hy]
  · isplitl [HSI] <;> iassumption
  icases H with ⟨%h2, HSI, -⟩
  ihave H := (SI_pointsTo_agree (st := s') (ℓ := rLoc d) (I := Finset.univ) (q := fullShare) (f := shaped m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (aLoc c) = m (aLoc c) ∧ r.2.mem (yLoc c) = m (yLoc c) ∧ r.2.mem (rLoc c) = shaped m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Search

end
-- ==== Proof.Rank.lean ====
/- Where a query stands in an ascending table: the number of the entries below it, and that the halving strides climb to
   it. Read at the ideal instance, where floats are extended reals. -/
module

public import proofs.«01_k».proof.Proof.SearchIdeal
public import Idealize.ShloMosaic.PureOps.Ideal

@[expose] public section

set_option maxRecDepth 16384

noncomputable section

namespace Cert.KernelIdeal.Search

open Cert.KernelIdeal Cert.KernelIdeal.Gen
open Idealize.ShloMosaic

/-! ## An initial segment of the numbers below `n` -/

/-- A property that passes down to smaller numbers holds exactly below the number of its holders. -/
theorem holds_iff_lt_card {n : Nat} (p : Fin n → Prop) [DecidablePred p] (down : ∀ i j, i ≤ j → p j → p i) (k : Fin n) :
    p k ↔ k.val < (Finset.univ.filter p).card := by
  constructor
  · intro hk
    have sub : Finset.Iic k ⊆ Finset.univ.filter p := fun i hi =>
      Finset.mem_filter.2 ⟨Finset.mem_univ _, down i k (Finset.mem_Iic.1 hi) hk⟩
    have := Finset.card_le_card sub
    rw [Fin.card_Iic] at this
    omega
  · intro hk
    by_contra no
    have sub : Finset.univ.filter p ⊆ Finset.Iio k := fun i hi =>
      Finset.mem_Iio.2 (lt_of_not_ge fun le => no (down k i le (Finset.mem_filter.1 hi).2))
    have := Finset.card_le_card sub
    rw [Fin.card_Iio] at this
    omega

/-! ## The rank of a query -/

variable (t : Vec Ideal S65536 .f32) (x : Ideal .f32)

/-- The number of the table's entries below the query. -/
def below : Nat := (Finset.univ.filter fun k : Fin 65536 => t (slot k.val) < x).card

theorem below_le : below t x ≤ 65536 := (Finset.card_le_univ _).trans (by simp)

/-- The table does not go down from one entry to the next. -/
def Ascending : Prop := ∀ n, n + 1 < 65536 → t (slot n) ≤ t (slot (n + 1))

variable {t}

theorem Ascending.le (up : Ascending t) {i : Nat} : ∀ {j : Nat}, i ≤ j → j < 65536 → t (slot i) ≤ t (slot j)
  | 0, hij, _ => by rw [Nat.le_zero.1 hij]
  | j + 1, hij, hj => by
    rcases Nat.lt_or_eq_of_le hij with h | h
    · exact (up.le (Nat.le_of_lt_succ h) (by omega)).trans (up j hj)
    · rw [h]

/-- In an ascending table the entries below the query are the first ones. -/
theorem Ascending.lt_iff (up : Ascending t) {n : Nat} (hn : n < 65536) : t (slot n) < x ↔ n < below t x :=
  holds_iff_lt_card (fun k : Fin 65536 => t (slot k.val) < x) (fun _ j hij hj => (up.le hij j.isLt).trans_lt hj) ⟨n, hn⟩

/-! ## The climb -/

/-- Each probe looks one entry short of its stride, and the strides after it reach just that far. -/
def Halving : List (BitVec 32 × BitVec 32) → Prop
  | [] => True
  | w :: l => w.2.toNat = w.1.toNat + 1 ∧ reach l = w.1.toNat ∧ Halving l

theorem halving_strides : Halving strides := by
  simp only [Halving, reach, strides]; decide

/-- One probe moves past the entry it looks at exactly where that entry is below the query. -/
theorem Ascending.bump (up : Ascending t) (w : BitVec 32 × BitVec 32) (p : BitVec 32) (hp : p.toNat + w.2.toNat ≤ 65535)
    (hw : w.2.toNat = w.1.toNat + 1) :
    (bump t x w p).toNat = if p.toNat + w.1.toNat < below t x then p.toNat + w.2.toNat else p.toNat := by
  have e₁ : (p + w.1).toNat = p.toNat + w.1.toNat := BitVec.toNat_add_of_lt (by omega)
  have e₂ : (p + w.2).toNat = p.toNat + w.2.toNat := BitVec.toNat_add_of_lt (by omega)
  have c : FloatOps.cmpf (F := Ideal) .olt (entry t (p + w.1)) x = BitVec.ofBool (decide (t (slot (p.toNat + w.1.toNat)) < x)) := by
    rw [← e₁]; rfl
  unfold Search.bump Scalar.select
  rw [c]
  by_cases h : p.toNat + w.1.toNat < below t x
  · rw [if_pos h, decide_eq_true ((up.lt_iff x (by omega)).2 h)]
    exact e₂
  · rw [if_neg h, decide_eq_false (fun lt => h ((up.lt_iff x (by omega)).1 lt))]
    rfl

/-- Climbing by halving strides never passes the rank, and gets to it or to the end of its reach. -/
theorem Ascending.climb (up : Ascending t) : ∀ (l : List (BitVec 32 × BitVec 32)), Halving l → ∀ p : BitVec 32,
    p.toNat + reach l ≤ 65535 → p.toNat ≤ below t x → min (below t x) 65535 ≤ p.toNat + reach l →
    (climb t x l p).toNat ≤ below t x ∧ min (below t x) 65535 ≤ (climb t x l p).toNat
  | [], _, _, _, lo, hi => ⟨lo, hi⟩
  | w :: l, ⟨hw, hl, rest⟩, p, fit, lo, hi => by
    have fit' : p.toNat + (w.2.toNat + reach l) ≤ 65535 := fit
    have hi' : min (below t x) 65535 ≤ p.toNat + (w.2.toNat + reach l) := hi
    have e := up.bump x w p (by omega) hw
    refine up.climb l rest (Search.bump t x w p) ?_ ?_ ?_ <;> rw [e] <;> split <;> omega

theorem Ascending.climb_strides (up : Ascending t) : (Search.climb t x strides 0#32).toNat = min (below t x) 65535 := by
  have h : reach strides = 65535 := by decide
  have z : (0#32 : BitVec 32).toNat = 0 := rfl
  have c := up.climb x strides halving_strides 0#32 (by omega) (by omega) (by omega)
  have := climb_le t x strides 0#32 (by omega)
  omega

/-- The insertion point is the rank, kept between the first entry and the last. -/
theorem Ascending.spot (up : Ascending t) : (Search.spot t x).toNat = max 1 (min (below t x) 65535) := by
  rw [spot_toNat, up.climb_strides]

/-- The same point from the rank as a word. -/
theorem Ascending.clamp (up : Ascending t) :
    IntOp.minsi 65535#32 (IntOp.maxsi 1#32 (BitVec.ofNat 32 (below t x))) = Search.spot t x := by
  have hb := below_le t x
  apply BitVec.eq_of_toNat_eq
  rw [up.spot]
  rcases Nat.lt_or_eq_of_le hb with h | h
  · have e : (BitVec.ofNat 32 (below t x)).toNat = below t x := Nat.mod_eq_of_lt (by omega)
    rw [clamp_toNat _ (by omega), e]
    omega
  · rw [h]; decide

end Cert.KernelIdeal.Search

end
-- ==== Proof.Reading.lean ====
/- The reference program's value, place by place: the number of the entries below a query, kept inside the table, then the
   nearer of the two entries around the query, then its number read back from the table of numbers. -/
module

public import proofs.«01_k».proof.Proof.Gen.ReferenceIdeal.Run
public import proofs.«01_k».proof.Proof.Rank
public import Idealize.ShloMosaic.Lib.ReduceAll
public import Idealize.ShloMosaic.Lib.IndicatorCount
public import Idealize.ShloMosaic.Lib.Quiescent

@[expose] public section

set_option maxRecDepth 16384

noncomputable section

namespace Cert.ReferenceIdeal.Reading

open Cert.ReferenceIdeal Cert.ReferenceIdeal.Gen
open Idealize.ShloMosaic
open Cert.KernelIdeal.Search (slot slot_val entry below spot answer spot_range spot_pred Ascending)

/-! ## Taking entries of a table -/

/-- A word at every place of the array of queries. -/
abbrev filled (w : BitVec 32) : IVec S2048x4096 32 := broadcastInDim S2048x4096 ![] bcast_S_S2048x4096 (constantI S_ 32 w)

/-- Entry numbers, negative ones counted from the table's end. -/
abbrev wrapped (i : IVec S2048x4096 32) : IVec S2048x4096 32 := select (cmpi .slt i (filled 0#32)) (addi i (filled 65536#32)) i

/-- Entry numbers as the start indices of a gather. -/
abbrev starts (i : IVec S2048x4096 32) : IVec S2048x4096x1 32 :=
  broadcastInDim S2048x4096x1 ![0, 1] bcast_S2048x4096_S2048x4096x1_0_1 (wrapped i)

/-- Where a start index is the number of an entry. -/
def valid (w : IVec S2048x4096x1 32) : IVec S2048x4096 1 :=
  Host.reduce IntOp.andi (andi (cmpi .sge w (broadcastInDim S2048x4096x1 ![] bcast_S_S2048x4096x1 (constantI S_ 32 0#32)))
      (cmpi .sle w (broadcastInDim S2048x4096x1 ![0, 1, 2] bcast_S1x1x1_S2048x4096x1_0_1_2
        (broadcastInDim S1x1x1 ![2] bcast_S1_S1x1x1_2 (constantI S1 32 65535#32)))))
    (constantI S_ 1 1#1) reducesTo_S2048x4096x1_S2048x4096_d2 h_S_

/-- The table's entries at the start indices, a NaN where there is none. -/
def taken {F : FTy → Type} [FloatOps F] (T : FVec F S65536 .f32) (w : IVec S2048x4096x1 32) : FVec F S2048x4096 .f32 :=
  select (valid w) (Host.gather gather_S65536_S2048x4096x1_S2048x4096_n_0_n_n_0_2_1 T w)
    (broadcastInDim S2048x4096 ![] bcast_S_S2048x4096 (constant S_ .f32 0x7FC00000#32))

/-- The place of the array of queries that a start index belongs to. -/
def place (k : S2048x4096x1.Idx) : S2048x4096.Idx := fun
  | ⟨0, _⟩ => k 0
  | ⟨1, _⟩ => k 1

theorem select_set {s : Shape} {α : Type} (c : IVec s 1) (a b : s.Idx → α) (j : s.Idx) (h : c j = 1#1) : select c a b j = a j := if_pos h

theorem toInt_small {w : BitVec 32} (h : w.toNat ≤ 65535) : w.toInt = w.toNat := BitVec.toInt_eq_toNat_of_lt (by omega)

theorem starts_apply (i : IVec S2048x4096 32) (hi : ∀ j, (i j).toNat ≤ 65535) (k : S2048x4096x1.Idx) : starts i k = i (place k) := by
  have e : starts i k = wrapped i (place k) := by
    refine congrArg (wrapped i) (funext fun a => ?_)
    match a with
    | ⟨0, _⟩ => rfl
    | ⟨1, _⟩ => rfl
  have neg : ¬ IntOp.cmpi .slt (i (place k)) 0#32 = 1#1 := by
    rw [IntOp.cmpi_slt, toInt_small (hi _)]
    simp
  rw [e]
  exact if_neg neg

theorem valid_starts (i : IVec S2048x4096 32) (hi : ∀ j, (i j).toNat ≤ 65535) (j : S2048x4096.Idx) : valid (starts i) j = 1#1 := by
  refine Host.reduce_andi_one _ _ _ _ j rfl fun k => IntOp.andi_eq_one.2 ⟨?_, ?_⟩
  · show IntOp.cmpi .sge (starts i k) 0#32 = 1#1
    rw [starts_apply i hi, IntOp.cmpi_sge, toInt_small (hi _)]
    simp
  · show IntOp.cmpi .sle (starts i k) 65535#32 = 1#1
    have e : (65535#32 : BitVec 32).toInt = 65535 := rfl
    have := hi (place k)
    rw [starts_apply i hi, IntOp.cmpi_sle, toInt_small (hi _), e]
    omega

/-- A gather reads, at a place, the entry its start index names, the last entry where the index is past the end. -/
theorem gather_apply {α : Type} (T : S65536.Idx → α) (w : IVec S2048x4096x1 32) (j : S2048x4096.Idx) :
    ∃ k, place k = j ∧ Host.gather gather_S65536_S2048x4096x1_S2048x4096_n_0_n_n_0_2_1 T w j = T (slot (min (w k).toInt.toNat 65535)) := by
  refine ⟨fun | ⟨0, _⟩ => j 0 | ⟨1, _⟩ => j 1 | ⟨2, _⟩ => (0 : Fin 1), ?_, ?_⟩
  · funext a
    match a with
    | ⟨0, _⟩ => rfl
    | ⟨1, _⟩ => rfl
  · refine congrArg T (funext fun a => ?_)
    obtain rfl : a = 0 := Subsingleton.elim _ _
    apply Fin.ext
    rw [slot_val _ (by omega)]
    have hb : (0 : Fin 1) ∉ gather_S65536_S2048x4096x1_S2048x4096_n_0_n_n_0_2_1.operandBatchingDims := List.not_mem_nil
    have hk : (0 : Fin 1) ∉ gather_S65536_S2048x4096x1_S2048x4096_n_0_n_n_0_2_1.sKept := by
      rw [GatherDims.mem_sKept]; exact fun h => h.1 (List.mem_singleton.2 rfl)
    have hm : (0 : Fin 1) ∈ gather_S65536_S2048x4096x1_S2048x4096_n_0_n_n_0_2_1.startIndexMap := List.mem_singleton.2 rfl
    simp only [GatherDims.operandIdx, GatherDims.batchCoord_eq_zero _ _ _ hb, GatherDims.offCoord_eq_zero _ _ _ hk, Nat.add_zero,
      GatherDims.start, dif_pos hm]
    have last : S65536.size 0 - gather_S65536_S2048x4096x1_S2048x4096_n_0_n_n_0_2_1.sliceSizes 0 = 65535 := by
      show 65536 - 1 = 65535
      norm_num
    rw [last]
    refine congrArg (fun b : S2048x4096x1.Idx => min (w b).toInt.toNat 65535) (funext fun b => ?_)
    match b with
    | ⟨0, _⟩ => rfl
    | ⟨1, _⟩ => rfl
    | ⟨2, _⟩ => rfl

/-- Taking entries by numbers of entries reads those entries. -/
theorem taken_apply {F : FTy → Type} [FloatOps F] (T : FVec F S65536 .f32) (i : IVec S2048x4096 32) (hi : ∀ j, (i j).toNat ≤ 65535)
    (j : S2048x4096.Idx) : taken T (starts i) j = entry T (i j) := by
  obtain ⟨k, rfl, e⟩ := gather_apply T (starts i) j
  have v : taken T (starts i) (place k) = Host.gather gather_S65536_S2048x4096x1_S2048x4096_n_0_n_n_0_2_1 T (starts i) (place k) :=
    select_set _ _ _ _ (valid_starts i hi _)
  have := hi (place k)
  rw [v, e, starts_apply i hi, toInt_small (hi _), Int.toNat_natCast, Nat.min_eq_left this]
  rfl

/-! ## Counting the entries below a query -/

/-- For every query, the number of the table's entries below it. -/
def counted {F : FTy → Type} [FloatOps F] (X : FVec F S2048x4096 .f32) (T : FVec F S65536 .f32) : IVec S2048x4096 32 :=
  Host.reduce IntOp.addi (extui 32 (cmpf .olt
      (broadcastInDim S2048x4096x65536 ![0, 1, 2] bcast_S1x1x65536_S2048x4096x65536_0_1_2 (broadcastInDim S1x1x65536 ![2] bcast_S65536_S1x1x65536_2 T))
      (broadcastInDim S2048x4096x65536 ![0, 1, 2] bcast_S2048x4096x1_S2048x4096x65536_0_1_2
        (broadcastInDim S2048x4096x1 ![0, 1] bcast_S2048x4096_S2048x4096x1_0_1 X))) natLt_1_32)
    (constantI S_ 32 0#32) reducesTo_S2048x4096x65536_S2048x4096_d2 h_S_

theorem reduces_last : S2048x4096x65536.Reduces [2] S2048x4096 := by decide

theorem counted_apply (X : FVec Ideal S2048x4096 .f32) (T : FVec Ideal S65536 .f32) (j : S2048x4096.Idx) :
    counted X T j = BitVec.ofNat 32 (below T (X j)) := by
  have e : (fun k : Fin 65536 => BitVec.setWidth 32 (BitVec.ofBool (decide (T (slot k.val) < X j))))
      = (extui 32 (cmpf .olt
      (broadcastInDim S2048x4096x65536 ![0, 1, 2] bcast_S1x1x65536_S2048x4096x65536_0_1_2 (broadcastInDim S1x1x65536 ![2] bcast_S65536_S1x1x65536_2 T))
      (broadcastInDim S2048x4096x65536 ![0, 1, 2] bcast_S2048x4096x1_S2048x4096x65536_0_1_2
        (broadcastInDim S2048x4096x1 ![0, 1] bcast_S2048x4096_S2048x4096x1_0_1 X))) natLt_1_32) ∘ reduces_last.lift j := by
    funext k
    refine congrArg₂ (fun a b => BitVec.setWidth 32 (BitVec.ofBool (decide (T a < X b)))) (funext fun a => ?_) (funext fun a => ?_)
    · obtain rfl : a = 0 := Subsingleton.elim _ _
      exact Fin.ext (slot_val _ k.isLt)
    · match a with
      | ⟨0, _⟩ => rfl
      | ⟨1, _⟩ => rfl
  unfold counted
  rw [Host.reduce_eq_fold_single _ _ _ _ reduces_last, ← e]
  refine (IndicatorCount.fold_addi_setWidth_eq_card _ _).trans ?_
  unfold below
  congr 3
  funext k
  by_cases h : T (slot k.val) < X j <;> simp [h]

/-! ## The whole value -/

/-- The number of the entries below each query, kept inside the table. -/
def point {F : FTy → Type} [FloatOps F] (X : FVec F S2048x4096 .f32) (T : FVec F S65536 .f32) : IVec S2048x4096 32 :=
  minsi (filled 65535#32) (maxsi (filled 1#32) (counted X T))

/-- Of the two entries around each query, the one at `p` and the one before it, the nearer one's number. -/
def nearer {F : FTy → Type} [FloatOps F] (X : FVec F S2048x4096 .f32) (T : FVec F S65536 .f32) (p : IVec S2048x4096 32) : IVec S2048x4096 32 :=
  select (cmpf .ole (subf X (taken T (starts (subi p (filled 1#32))))) (subf (taken T (starts p)) X)) (subi p (filled 1#32)) p

/-- Numbers of entries, read back from the table of numbers. -/
def named (F : FTy → Type) [FloatOps F] (i : IVec S2048x4096 32) : IVec S2048x4096 32 :=
  fptosi 32 (taken (sitofp (F := F) .f32 (iotaInDim S65536 32 0)) (starts i))

/-- The reference's value. -/
def result {F : FTy → Type} [FloatOps F] (X : FVec F S2048x4096 .f32) (T : FVec F S65536 .f32) : IVec S2048x4096 32 :=
  named F (nearer X T (point X T))

variable (X : FVec Ideal S2048x4096 .f32) {T : FVec Ideal S65536 .f32}

theorem point_apply (up : Ascending T) (j : S2048x4096.Idx) : point X T j = spot T (X j) := by
  rw [← up.clamp, ← counted_apply]
  rfl

theorem choose_apply {s : Shape} (x l r : FVec Ideal s .f32) (p q : IVec s 32) (j : s.Idx) :
    select (cmpf .ole (subf x l) (subf r x)) q p j
      = Scalar.select (FloatOps.cmpf .ole (FloatOps.subf (x j) (l j)) (FloatOps.subf (r j) (x j))) (q j) (p j) := rfl

theorem pred_apply (p : IVec S2048x4096 32) (j : S2048x4096.Idx) : subi p (filled 1#32) j = p j - 1#32 := rfl

theorem pred_le (p : IVec S2048x4096 32) (hp : ∀ j, 1 ≤ (p j).toNat ∧ (p j).toNat ≤ 65535) (j : S2048x4096.Idx) : (subi p (filled 1#32) j).toNat ≤ 65535 := by
  have h := hp j
  rw [pred_apply, BitVec.toNat_sub_of_le (by rw [BitVec.le_def]; exact h.1)]
  exact (Nat.sub_le _ _).trans h.2

theorem nearer_taken (p : IVec S2048x4096 32) (hp : ∀ j, 1 ≤ (p j).toNat ∧ (p j).toNat ≤ 65535) (j : S2048x4096.Idx) :
    nearer X T p j = Scalar.select (FloatOps.cmpf .ole (FloatOps.subf (X j) (entry (F := Ideal) T (p j - 1#32))) (FloatOps.subf (entry (F := Ideal) T (p j)) (X j)))
      (p j - 1#32) (p j) := by
  unfold nearer
  rw [choose_apply, taken_apply T p (fun j => (hp j).2) j, taken_apply T _ (pred_le p hp) j, pred_apply]

theorem nearer_apply (p : IVec S2048x4096 32) (hp : ∀ j, p j = spot (F := Ideal) T (X j)) (j : S2048x4096.Idx) :
    nearer X T p j = answer (F := Ideal) T (X j) := by
  rw [nearer_taken X p (fun j => by rw [hp]; exact spot_range (F := Ideal) T (X j)) j, hp]
  unfold answer
  rfl

theorem answer_le (t : FVec Ideal S65536 .f32) (x : Ideal .f32) : (answer t x).toNat ≤ 65535 := by
  have r := spot_range t x
  have p := spot_pred t x
  unfold answer Scalar.select
  split <;> omega

/-- A number of an entry, made a float and back, is itself. -/
theorem roundTrip {n : Nat} (hn : n ≤ 65535) : Ideal.fptosi 32 (((BitVec.ofNat 32 n).toInt : ℝ) : EReal) = BitVec.ofNat 32 n := by
  have e : (BitVec.ofNat 32 n).toNat = n := Nat.mod_eq_of_lt (by omega)
  have z : (BitVec.ofNat 32 n).toInt = n := by rw [toInt_small (by omega), e]
  rw [Ideal.fptosi, Ideal.toIntClamped_coe, z]
  rw [if_pos (by positivity), Int.floor_intCast, min_eq_right (by norm_num; omega), max_eq_right (by norm_num)]
  exact BitVec.ofInt_natCast 32 n

theorem named_apply (i : IVec S2048x4096 32) (hi : ∀ j, (i j).toNat ≤ 65535) (j : S2048x4096.Idx) : named Ideal i j = i j := by
  have s := taken_apply (sitofp (F := Ideal) .f32 (iotaInDim S65536 32 0)) i hi j
  have e : entry (F := Ideal) (sitofp (F := Ideal) .f32 (iotaInDim S65536 32 0)) (i j) = (((BitVec.ofNat 32 (i j).toNat).toInt : ℝ) : EReal) := by
    have v : (slot (i j).toNat 0).val = (i j).toNat := slot_val _ (Nat.lt_succ_of_le (hi j))
    rw [← congrArg (BitVec.ofNat 32) v]
    rfl
  have r : named Ideal i j = Ideal.fptosi 32 (taken (sitofp (F := Ideal) .f32 (iotaInDim S65536 32 0)) (starts i) j) := rfl
  rw [r, s, e, roundTrip (hi j), BitVec.ofNat_toNat, BitVec.setWidth_eq]

/-- The reference's value at a place is the kernel's answer to the query there. -/
theorem result_apply (up : Ascending T) (j : S2048x4096.Idx) : result X T j = answer T (X j) := by
  have a : ∀ j, nearer X T (point X T) j = answer T (X j) := nearer_apply X (point X T) (point_apply X up)
  unfold result
  rw [named_apply _ (fun j => by rw [a]; exact answer_le T (X j)), a]

/-! ## The run -/

open Idealize.ShloMosaic.TcCoe Idealize.SL.Sem

/-- Every run ends with the arguments as they were, the result at its value, and no semaphore raised. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD,
        r.2.mem ((c.tc : Thread nD τ).loc main_v20) = result (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run _ _ _).mono (fun r h => ⟨fun c => ⟨(h c).1, (h c).2⟩, sem_eq_zero_of_no_sems rfl r.2⟩) (Value.run m ρ)

end Cert.ReferenceIdeal.Reading

end
-- ==== Proof.Equation.lean ====
/- The kernel's result and the reference's are one array, where the table is ascending. -/
module

public import proofs.«01_k».proof.Defs
public import proofs.«01_k».proof.Proof.RunIdeal
public import proofs.«01_k».proof.Proof.Reading
public import proofs.«01_k».proof.Proof.Gen.Pre_ascending

@[expose] public section

set_option maxRecDepth 16384

noncomputable section

namespace Cert.Equation

open Idealize.ShloMosaic
open Cert.KernelIdeal.Search (Ascending slot slot_val shaped answer aLoc yLoc)

/-- The printed precondition says that the table is ascending. -/
theorem ascending (X : FVec Ideal Cert.Pre_ascending.S2048x4096 .f32) (T : FVec Ideal Cert.Pre_ascending.S65536 .f32)
    (h : Cert.Pre_ascending.fn (F := Ideal) X T = fun _ => 1#1) : Ascending T := by
  intro n hn
  have e := congrFun h (Shape.Idx.first Cert.Pre_ascending.Facts.h_S_)
  dsimp only [Cert.Pre_ascending.fn] at e
  have : Subsingleton Cert.Pre_ascending.S_.Idx := ⟨fun a b => funext fun i => i.elim0⟩
  have c := Host.reduce_andi_all _ _ _ _ _ e (fun a => ⟨n, by obtain rfl : a = 0 := Subsingleton.elim _ _; exact (by omega : n < 65535)⟩)
  have l : BitVec.ofBool (decide (T (slot n) ≤ T (slot (n + 1)))) = 1#1 := by
    rw [← c]
    refine congrArg₂ (fun a b => BitVec.ofBool (decide (T a ≤ T b))) (funext fun a => ?_) (funext fun a => ?_)
    · obtain rfl : a = 0 := Subsingleton.elim _ _
      exact Fin.ext ((slot_val n (by omega)).trans (Nat.zero_add n).symm)
    · obtain rfl : a = 0 := Subsingleton.elim _ _
      exact Fin.ext ((slot_val (n + 1) hn).trans (Nat.add_comm n 1))
  by_contra no
  rw [decide_eq_false no] at l
  exact absurd l (by decide)

/-- The answers, taken in one row and shaped back, are the answers place by place. -/
theorem shaped_apply (m : (ℓ : Loc Cert.KernelIdeal.nD Cert.KernelIdeal.τ Cert.KernelIdeal.sig) → Buf (Elt Ideal) ℓ)
    (d : Dev Cert.KernelIdeal.nD) (j : Cert.KernelIdeal.S2048x4096.Idx) :
    shaped (F := Ideal) m d j = answer (F := Ideal) (m (yLoc d)) ((m (aLoc d) : FVec Ideal Cert.KernelIdeal.S2048x4096 .f32) j) := by
  refine congrArg (fun i => answer (F := Ideal) (m (yLoc d)) ((m (aLoc d) : FVec Ideal Cert.KernelIdeal.S2048x4096 .f32) i)) ?_
  exact (Shape.reshapeEquiv_reshapeEquiv _ _ j).trans (Shape.reshapeEquiv_self _ j)

open Idealize.SL.Sem

/-- Both programs end with the answers. -/
theorem algebraic : Cert.algebraic_KernelIdeal_ReferenceIdeal_pre_ascending := by
  intro m g m' g' pre same
  refine ⟨fun c => shaped (F := Ideal) m c, ?_, ?_⟩
  · exact (θ_run _ _ _).mono (fun _ h c => ⟨(h.1 c).2.2, (h.1 c).1, (h.1 c).2.1⟩) (Cert.KernelIdeal.Search.run_main m g)
  · refine (θ_run _ _ _).mono (fun _ h c => ⟨(h.1 c).1.trans ?_, (h.1 c).2⟩) (Cert.ReferenceIdeal.Reading.run_value m' g')
    rw [(same c).1, (same c).2]
    funext j
    refine Eq.trans ?_ (shaped_apply m c j).symm
    exact Cert.ReferenceIdeal.Reading.result_apply _ (ascending _ _ (pre c)) j

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_ascending
public import proofs.«01_k».proof.Proof.Run
public import proofs.«01_k».proof.Proof.RunIdeal
public import proofs.«01_k».proof.Proof.Reading
public import proofs.«01_k».proof.Proof.Equation
public import Idealize.ShloMosaic.Adequacy
public import Idealize.ShloMosaic.Init

@[expose] public section

noncomputable section

namespace Cert.Proof

open Idealize.ShloMosaic Idealize.SL.Sem Cert.Kernel

theorem quiescent_Kernel : Cert.quiescent_Kernel := fun m g _ =>
  (θ_run _ _ _).mono (fun _ h => ⟨fun c => ⟨(h.1 c).1, (h.1 c).2.1⟩, h.2⟩) (Cert.Kernel.Search.run_main m g)

theorem quiescent_KernelIdeal : Cert.quiescent_KernelIdeal := fun m g _ =>
  (θ_run _ _ _).mono (fun _ h => ⟨fun c => ⟨(h.1 c).1, (h.1 c).2.1⟩, h.2⟩) (Cert.KernelIdeal.Search.run_main m g)

theorem quiescent_ReferenceIdeal : Cert.quiescent_ReferenceIdeal := fun m g _ =>
  (θ_run _ _ _).mono (fun _ h => ⟨fun c => (h.1 c).2, h.2⟩) (Cert.ReferenceIdeal.Reading.run_value m g)

theorem claim : Cert.Claim :=
  ⟨Cert.Kernel.Gen.facts, Cert.KernelIdeal.Gen.facts, Cert.ReferenceIdeal.Gen.facts, Cert.Pre_ascending.Gen.facts,
    quiescent_Kernel, quiescent_KernelIdeal, fun m g _ => quiescent_KernelIdeal m g trivial, quiescent_ReferenceIdeal,
    fun m g _ => quiescent_ReferenceIdeal m g trivial, trivial, Cert.Equation.algebraic⟩

end Cert.Proof

end
